-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "rho2" .f32 0x3F804018#32 ((1048576 / 1046529 : ℝ) : EReal)
  ∧ IdealRules.named_const.Statement Cert.KernelIdeal.κ "neg_rho2" .f32 0xBF804018#32 ((-1048576 / 1046529 : ℝ) : EReal)
  ∧ IdealRules.named_const.Statement Cert.KernelIdeal.κ "neg_half_rho2" .f32 0xBF004018#32 ((-524288 / 1046529 : ℝ) : EReal)
  ∧ IdealRules.named_const.Statement Cert.KernelIdeal.κ "scale" .f32 0x384C422A#32 (((8192 * (Real.sqrt (2 * Real.pi)))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_kde_close [hKernelIdeal : Cert.KernelIdeal.Facts] [hPost_kde_close : Cert.Post_kde_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_kde_close.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPost_kde_close : Cert.Post_kde_close.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_kde_close (hKernelIdeal := hKernelIdeal) (hPost_kde_close := hPost_kde_close)
-- ==== Post_kde_close.lean ====
abbrev S1048576 : Shape := ⟨1, ![1048576]⟩
abbrev S1024 : Shape := ⟨1, ![1024]⟩
abbrev S_ : Shape := ⟨0, ![]⟩
abbrev S1023 : Shape := ⟨1, ![1023]⟩
abbrev S1 : Shape := ⟨1, ![1]⟩
abbrev S1048576x1 : Shape := ⟨2, ![1048576, 1]⟩
abbrev S1x1024 : Shape := ⟨2, ![1, 1024]⟩
abbrev S1048576x1024 : Shape := ⟨2, ![1048576, 1024]⟩

class Facts : Prop where
  bcast_S_S1023 : S_.BroadcastsInDim S1023 (![] : Fin 0 → Fin S1023.rank)
  shapeCasts_S_S1 : S_.ShapeCasts S1
  bcast_S1_S1023_0 : S1.BroadcastsInDim S1023 (![0] : Fin 1 → Fin S1023.rank)
  bcast_S_S1 : S_.BroadcastsInDim S1 (![] : Fin 0 → Fin S1.rank)
  concatenates_S1023_S1_S1024_d0 : Shape.Concatenates [S1023, S1] S1024 0
  bcast_S1048576_S1048576x1_0 : S1048576.BroadcastsInDim S1048576x1 (![0] : Fin 1 → Fin S1048576x1.rank)
  bcast_S1024_S1x1024_1 : S1024.BroadcastsInDim S1x1024 (![1] : Fin 1 → Fin S1x1024.rank)
  bcast_S1048576x1_S1048576x1024_0_1 : S1048576x1.BroadcastsInDim S1048576x1024 (![0, 1] : Fin 2 → Fin S1048576x1024.rank)
  bcast_S1x1024_S1048576x1024_0_1 : S1x1024.BroadcastsInDim S1048576x1024 (![0, 1] : Fin 2 → Fin S1048576x1024.rank)
  bcast_S_S1048576x1024 : S_.BroadcastsInDim S1048576x1024 (![] : Fin 0 → Fin S1048576x1024.rank)
  reducesTo_S1048576x1024_S1024_d0 : S1048576x1024.ReducesTo [0] S1024
  h_S_ : 0 < S_.numel
  bcast_S_S1024 : S_.BroadcastsInDim S1024 (![] : Fin 0 → Fin S1024.rank)

variable [Facts]

def fn_linspace {F : FTy → Type} [FloatOps F] (arg0 : FVec F S_ .f32) (arg1 : FVec F S_ .f32) : FVec F S1024 .f32 :=
  let v0 : FVec F S_ .f32 := id arg0
  let v1 : FVec F S_ .f32 := id arg1
  let v2 : FVec F S_ .f32 := subf v1 v0
  let cst : FVec F S_ .f32 := constant S_ .f32 0x447FC000#32
  let v3 : FVec F S_ .f32 := Host.divf v2 cst
  let v4 : FVec F S1023 .f32 := sitofp .f32 (iotaInDim S1023 32 0)
  let cst_0 : FVec F S_ .f32 := constant S_ .f32 0x447FC000#32
  let v5 : FVec F S1023 .f32 := broadcastInDim S1023 ![] bcast_S_S1023 cst_0
  let v6 : FVec F S1023 .f32 := Host.divf v4 v5
  let v7 : FVec F S1 .f32 := shapeCast S1 v0 shapeCasts_S_S1
  let cst_1 : FVec F S_ .f32 := constant S_ .f32 0x3F800000#32
  let v8 : FVec F S1023 .f32 := broadcastInDim S1023 ![] bcast_S_S1023 cst_1
  let v9 : FVec F S1023 .f32 := subf v8 v6
  let v10 : FVec F S1023 .f32 := broadcastInDim S1023 ![0] bcast_S1_S1023_0 v7
  let v11 : FVec F S1023 .f32 := mulf v10 v9
  let v12 : FVec F S1 .f32 := shapeCast S1 v1 shapeCasts_S_S1
  let v13 : FVec F S1023 .f32 := broadcastInDim S1023 ![0] bcast_S1_S1023_0 v12
  let v14 : FVec F S1023 .f32 := mulf v13 v6
  let v15 : FVec F S1023 .f32 := addf v11 v14
  let v16 : FVec F S1 .f32 := broadcastInDim S1 ![] bcast_S_S1 v1
  let v17 : FVec F S1024 .f32 := (fun a b => concatenate S1024 0 [⟨S1023, a⟩, ⟨S1, b⟩] concatenates_S1023_S1_S1024_d0) v15 v16
  v17

def fn_part1 {F : FTy → Type} [FloatOps F] (main_arg1 : FVec F S1024 .f32) (main_v12 : FVec F S1024 .f32) (main_v13 : FVec F S_ .f32) (main_v14 : FVec F S_ .f32) : IVec S1024 1 :=
  let main_cst_8 : FVec F S_ .f32 := constant S_ .f32 0x40000000#32
  let main_v15 : FVec F S_ .f32 := mulf main_cst_8 main_v13
  let main_v16 : FVec F S_ .f32 := Host.sqrt main_v15
  let main_v17 : FVec F S_ .f32 := mulf main_v14 main_v16
  let main_v18 : FVec F S1024 .f32 := broadcastInDim S1024 ![] bcast_S_S1024 main_v17
  let main_v19 : FVec F S1024 .f32 := Host.divf main_v12 main_v18
  let main_v20 : IVec S1024 1 := cmpf .ole main_arg1 main_v19
  let main_cst_9 : FVec F S_ .f32 := constant S_ .f32 0x3B09A027#32
  let main_v21 : FVec F S1024 .f32 := broadcastInDim S1024 ![] bcast_S_S1024 main_cst_9
  let main_v22 : FVec F S1024 .f32 := addf main_arg1 main_v21
  let main_v23 : IVec S1024 1 := cmpf .ole main_v19 main_v22
  let main_v24 : IVec S1024 1 := andi main_v20 main_v23
  main_v24

def fn {F : FTy → Type} [FloatOps F] (main_arg0 : FVec F S1048576 .f32) (main_arg1 : FVec F S1024 .f32) : IVec S1024 1 :=
  let main_cst : FVec F S_ .f32 := constant S_ .f32 0xC0800000#32
  let main_cst_0 : FVec F S_ .f32 := constant S_ .f32 0x40800000#32
  let main_v0 : FVec F S1024 .f32 := fn_linspace (F := F) main_cst main_cst_0
  let main_v1 : FVec F S1048576x1 .f32 := broadcastInDim S1048576x1 ![0] bcast_S1048576_S1048576x1_0 main_arg0
  let main_v2 : FVec F S1x1024 .f32 := broadcastInDim S1x1024 ![1] bcast_S1024_S1x1024_1 main_v0
  let main_v3 : FVec F S1048576x1024 .f32 := broadcastInDim S1048576x1024 ![0, 1] bcast_S1048576x1_S1048576x1024_0_1 main_v1
  let main_v4 : FVec F S1048576x1024 .f32 := broadcastInDim S1048576x1024 ![0, 1] bcast_S1x1024_S1048576x1024_0_1 main_v2
  let main_v5 : FVec F S1048576x1024 .f32 := subf main_v3 main_v4
  let main_cst_1 : FVec F S_ .f32 := constant S_ .f32 0x3C000000#32
  let main_v6 : FVec F S1048576x1024 .f32 := broadcastInDim S1048576x1024 ![] bcast_S_S1048576x1024 main_cst_1
  let main_v7 : FVec F S1048576x1024 .f32 := Host.divf main_v5 main_v6
  let main_cst_2 : FVec F S_ .f32 := constant S_ .f32 0xBF000000#32
  let main_v8 : FVec F S1048576x1024 .f32 := broadcastInDim S1048576x1024 ![] bcast_S_S1048576x1024 main_cst_2
  let main_v9 : FVec F S1048576x1024 .f32 := mulf main_v8 main_v7
  let main_v10 : FVec F S1048576x1024 .f32 := mulf main_v9 main_v7
  let main_v11 : FVec F S1048576x1024 .f32 := Host.exp main_v10
  let main_cst_3 : FVec F S_ .f32 := constant S_ .f32 0x00000000#32
  let main_v12 : FVec F S1024 .f32 := (fun x v => Host.reduceAdd x v reducesTo_S1048576x1024_S1024_d0 h_S_) main_v11 main_cst_3
  let main_cst_4 : FVec F S_ .f32 := constant S_ .f32 0x00000000#32
  let main_cst_5 : FVec F S_ .f32 := constant S_ .f32 0xBF800000#32
  let main_v13 : FVec F S_ .f32 := Host.atan2 main_cst_4 main_cst_5
  let main_cst_6 : FVec F S_ .f32 := constant S_ .f32 0x49800000#32
  let main_cst_7 : FVec F S_ .f32 := constant S_ .f32 0x3C000000#32
  let main_v14 : FVec F S_ .f32 := mulf main_cst_6 main_cst_7
  fn_part1 (F := F) main_arg1 main_v12 main_v13 main_v14
-- ==== Kernel.lean ====
abbrev S1048576 : Shape := ⟨1, ![1048576]⟩
abbrev S32x1024 : Shape := ⟨2, ![32, 1024]⟩
abbrev S32768 : Shape := ⟨1, ![32768]⟩
abbrev S16384 : Shape := ⟨1, ![16384]⟩
abbrev S1024 : Shape := ⟨1, ![1024]⟩
abbrev S_ : Shape := ⟨0, ![]⟩
abbrev S16 : Shape := ⟨1, ![16]⟩
abbrev S1x1024 : Shape := ⟨2, ![1, 1024]⟩

abbrev nBuf : Table → Nat
  | .hbm => 4
  | .local .tc .vmem => 2
  | .local .scVector .vmem => 3
  | _ => 0

abbrev bufTy : (tb : Table) → Fin (nBuf tb) → BufTy
  | .hbm, ⟨0, _⟩ => ⟨S1048576, .f32⟩
  | .hbm, ⟨1, _⟩ => ⟨S32x1024, .f32⟩
  | .hbm, ⟨2, _⟩ => ⟨S1x1024, .f32⟩
  | .hbm, ⟨3, _⟩ => ⟨S1024, .f32⟩
  | .local .tc .vmem, ⟨0, _⟩ => ⟨S32x1024, .f32⟩
  | .local .tc .vmem, ⟨1, _⟩ => ⟨S1x1024, .f32⟩
  | .local .scVector .vmem, ⟨0, _⟩ => ⟨S32768, .f32⟩
  | .local .scVector .vmem, ⟨1, _⟩ => ⟨S16384, .f32⟩
  | .local .scVector .vmem, ⟨2, _⟩ => ⟨S1024, .f32⟩
  | _, _ => ⟨S1048576, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => true
  | ⟨3, _⟩ => true
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 2
abbrev cc1_sem1_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_16 : BitVec 32 := 0#32
  let c64_i32 : BitVec 32 := 64#32
  let v39 : BitVec 32 := Scalar.addi c0_i32_16 c64_i32
  let c1_i32 : BitVec 32 := 1#32
  ⟨c0_i32_16, v39, c1_i32⟩
def k0_mult1 (k0_t1 : Fin k0_t1_loop.trips) : BitVec 32 :=
  let c0_i32_27 : BitVec 32 := 0#32
  let c0_i32_16 : BitVec 32 := 0#32
  let c1_i32 : BitVec 32 := 1#32
  let arg7 : BitVec 32 := Scf.iv c0_i32_16 c1_i32 k0_t1
  let c16_i32 : BitVec 32 := 16#32
  let v42 : BitVec 32 := Scalar.muli arg7 c16_i32
  let v43 : BitVec 32 := Scalar.addi c0_i32_27 v42
  v43
def k0_off2 (k0_t1 : Fin k0_t1_loop.trips) (c0_i32_27 : BitVec 32) : Fin 1 → Nat :=
  let c0_i32_16 : BitVec 32 := 0#32
  let c1_i32 : BitVec 32 := 1#32
  let arg7 : BitVec 32 := Scf.iv c0_i32_16 c1_i32 k0_t1
  let c16_i32 : BitVec 32 := 16#32
  let v42 : BitVec 32 := Scalar.muli arg7 c16_i32
  let v43 : BitVec 32 := Scalar.addi c0_i32_27 v42
  let v44 : BitVec 32 := v43
  let v45 : Index := Scalar.indexCast v44
  ![v45.toNat]
def k0_mult2 (k0_t1 : Fin k0_t1_loop.trips) : BitVec 32 :=
  let c1024_i32_29 : BitVec 32 := 1024#32
  let c0_i32_16 : BitVec 32 := 0#32
  let c1_i32 : BitVec 32 := 1#32
  let arg7 : BitVec 32 := Scf.iv c0_i32_16 c1_i32 k0_t1
  let c16_i32_28 : BitVec 32 := 16#32
  let v47 : BitVec 32 := Scalar.muli arg7 c16_i32_28
  let v48 : BitVec 32 := Scalar.addi c1024_i32_29 v47
  v48
def k0_mult3 (k0_t1 : Fin k0_t1_loop.trips) : BitVec 32 :=
  let c2048_i32_31 : BitVec 32 := 2048#32
  let c0_i32_16 : BitVec 32 := 0#32
  let c1_i32 : BitVec 32 := 1#32
  let arg7 : BitVec 32 := Scf.iv c0_i32_16 c1_i32 k0_t1
  let c16_i32_30 : BitVec 32 := 16#32
  let v52 : BitVec 32 := Scalar.muli arg7 c16_i32_30
  let v53 : BitVec 32 := Scalar.addi c2048_i32_31 v52
  v53
def k0_mult4 (k0_t1 : Fin k0_t1_loop.trips) : BitVec 32 :=
  let c3072_i32 : BitVec 32 := 3072#32
  let c0_i32_16 : BitVec 32 := 0#32
  let c1_i32 : BitVec 32 := 1#32
  let arg7 : BitVec 32 := Scf.iv c0_i32_16 c1_i32 k0_t1
  let c16_i32_32 : BitVec 32 := 16#32
  let v57 : BitVec 32 := Scalar.muli arg7 c16_i32_32
  let v58 : BitVec 32 := Scalar.addi c3072_i32 v57
  v58
def k0_mult5 (k0_t1 : Fin k0_t1_loop.trips) : BitVec 32 :=
  let c4096_i32 : BitVec 32 := 4096#32
  let c0_i32_16 : BitVec 32 := 0#32
  let c1_i32 : BitVec 32 := 1#32
  let arg7 : BitVec 32 := Scf.iv c0_i32_16 c1_i32 k0_t1
  let c16_i32_33 : BitVec 32 := 16#32
  let v62 : BitVec 32 := Scalar.muli arg7 c16_i32_33
  let v63 : BitVec 32 := Scalar.addi c4096_i32 v62
  v63
def k0_mult6 (k0_t1 : Fin k0_t1_loop.trips) : BitVec 32 :=
  let c5120_i32 : BitVec 32 := 5120#32
  let c0_i32_16 : BitVec 32 := 0#32
  let c1_i32 : BitVec 32 := 1#32
  let arg7 : BitVec 32 := Scf.iv c0_i32_16 c1_i32 k0_t1
  let c16_i32_34 : BitVec 32 := 16#32
  let v67 : BitVec 32 := Scalar.muli arg7 c16_i32_34
  let v68 : BitVec 32 := Scalar.addi c5120_i32 v67
  v68
def k0_mult7 (k0_t1 : Fin k0_t1_loop.trips) : BitVec 32 :=
  let c6144_i32 : BitVec 32 := 6144#32
  let c0_i32_16 : BitVec 32 := 0#32
  let c1_i32 : BitVec 32 := 1#32
  let arg7 : BitVec 32 := Scf.iv c0_i32_16 c1_i32 k0_t1
  let c16_i32_35 : BitVec 32 := 16#32
  let v72 : BitVec 32 := Scalar.muli arg7 c16_i32_35
  let v73 : BitVec 32 := Scalar.addi c6144_i32 v72
  v73
def k0_mult8 (k0_t1 : Fin k0_t1_loop.trips) : BitVec 32 :=
  let c7168_i32 : BitVec 32 := 7168#32
  let c0_i32_16 : BitVec 32 := 0#32
  let c1_i32 : BitVec 32 := 1#32
  let arg7 : BitVec 32 := Scf.iv c0_i32_16 c1_i32 k0_t1
  let c16_i32_36 : BitVec 32 := 16#32
  let v77 : BitVec 32 := Scalar.muli arg7 c16_i32_36
  let v78 : BitVec 32 := Scalar.addi c7168_i32 v77
  v78
def k0_mult9 (k0_t1 : Fin k0_t1_loop.trips) : BitVec 32 :=
  let c8192_i32 : BitVec 32 := 8192#32
  let c0_i32_16 : BitVec 32 := 0#32
  let c1_i32 : BitVec 32 := 1#32
  let arg7 : BitVec 32 := Scf.iv c0_i32_16 c1_i32 k0_t1
  let c16_i32_37 : BitVec 32 := 16#32
  let v82 : BitVec 32 := Scalar.muli arg7 c16_i32_37
  let v83 : BitVec 32 := Scalar.addi c8192_i32 v82
  v83
def k0_mult10 (k0_t1 : Fin k0_t1_loop.trips) : BitVec 32 :=
  let c9216_i32 : BitVec 32 := 9216#32
  let c0_i32_16 : BitVec 32 := 0#32
  let c1_i32 : BitVec 32 := 1#32
  let arg7 : BitVec 32 := Scf.iv c0_i32_16 c1_i32 k0_t1
  let c16_i32_38 : BitVec 32 := 16#32
  let v87 : BitVec 32 := Scalar.muli arg7 c16_i32_38
  let v88 : BitVec 32 := Scalar.addi c9216_i32 v87
  v88
def k0_mult11 (k0_t1 : Fin k0_t1_loop.trips) : BitVec 32 :=
  let c10240_i32 : BitVec 32 := 10240#32
  let c0_i32_16 : BitVec 32 := 0#32
  let c1_i32 : BitVec 32 := 1#32
  let arg7 : BitVec 32 := Scf.iv c0_i32_16 c1_i32 k0_t1
  let c16_i32_39 : BitVec 32 := 16#32
  let v92 : BitVec 32 := Scalar.muli arg7 c16_i32_39
  let v93 : BitVec 32 := Scalar.addi c10240_i32 v92
  v93
def k0_mult12 (k0_t1 : Fin k0_t1_loop.trips) : BitVec 32 :=
  let c11264_i32 : BitVec 32 := 11264#32
  let c0_i32_16 : BitVec 32 := 0#32
  let c1_i32 : BitVec 32 := 1#32
  let arg7 : BitVec 32 := Scf.iv c0_i32_16 c1_i32 k0_t1
  let c16_i32_40 : BitVec 32 := 16#32
  let v97 : BitVec 32 := Scalar.muli arg7 c16_i32_40
  let v98 : BitVec 32 := Scalar.addi c11264_i32 v97
  v98
def k0_mult13 (k0_t1 : Fin k0_t1_loop.trips) : BitVec 32 :=
  let c12288_i32 : BitVec 32 := 12288#32
  let c0_i32_16 : BitVec 32 := 0#32
  let c1_i32 : BitVec 32 := 1#32
  let arg7 : BitVec 32 := Scf.iv c0_i32_16 c1_i32 k0_t1
  let c16_i32_41 : BitVec 32 := 16#32
  let v102 : BitVec 32 := Scalar.muli arg7 c16_i32_41
  let v103 : BitVec 32 := Scalar.addi c12288_i32 v102
  v103
def k0_mult14 (k0_t1 : Fin k0_t1_loop.trips) : BitVec 32 :=
  let c13312_i32 : BitVec 32 := 13312#32
  let c0_i32_16 : BitVec 32 := 0#32
  let c1_i32 : BitVec 32 := 1#32
  let arg7 : BitVec 32 := Scf.iv c0_i32_16 c1_i32 k0_t1
  let c16_i32_42 : BitVec 32 := 16#32
  let v107 : BitVec 32 := Scalar.muli arg7 c16_i32_42
  let v108 : BitVec 32 := Scalar.addi c13312_i32 v107
  v108
def k0_mult15 (k0_t1 : Fin k0_t1_loop.trips) : BitVec 32 :=
  let c14336_i32 : BitVec 32 := 14336#32
  let c0_i32_16 : BitVec 32 := 0#32
  let c1_i32 : BitVec 32 := 1#32
  let arg7 : BitVec 32 := Scf.iv c0_i32_16 c1_i32 k0_t1
  let c16_i32_43 : BitVec 32 := 16#32
  let v112 : BitVec 32 := Scalar.muli arg7 c16_i32_43
  let v113 : BitVec 32 := Scalar.addi c14336_i32 v112
  v113
def k0_mult16 (k0_t1 : Fin k0_t1_loop.trips) : BitVec 32 :=
  let c15360_i32 : BitVec 32 := 15360#32
  let c0_i32_16 : BitVec 32 := 0#32
  let c1_i32 : BitVec 32 := 1#32
  let arg7 : BitVec 32 := Scf.iv c0_i32_16 c1_i32 k0_t1
  let c16_i32_44 : BitVec 32 := 16#32
  let v117 : BitVec 32 := Scalar.muli arg7 c16_i32_44
  let v118 : BitVec 32 := Scalar.addi c15360_i32 v117
  v118
@[reducible] def k0_t2_loop : Scf.Loop 32 :=
  let c0_i32_19 : BitVec 32 := 0#32
  let c2048_i32 : BitVec 32 := 2048#32
  let v40 : BitVec 32 := Scalar.addi c0_i32_19 c2048_i32
  let c1_i32_20 : BitVec 32 := 1#32
  ⟨c0_i32_19, v40, c1_i32_20⟩
def k0_mult17 (k0_t2 : Fin k0_t2_loop.trips) : BitVec 32 :=
  let c0_i32_19 : BitVec 32 := 0#32
  let c1_i32_20 : BitVec 32 := 1#32
  let arg7 : BitVec 32 := Scf.iv c0_i32_19 c1_i32_20 k0_t2
  let c16_i32 : BitVec 32 := 16#32
  let v42 : BitVec 32 := Scalar.muli arg7 c16_i32
  v42
def k0_off3 (k0_t2 : Fin k0_t2_loop.trips) : Fin 1 → Nat :=
  let c0_i32_19 : BitVec 32 := 0#32
  let c1_i32_20 : BitVec 32 := 1#32
  let arg7 : BitVec 32 := Scf.iv c0_i32_19 c1_i32_20 k0_t2
  let c16_i32 : BitVec 32 := 16#32
  let v42 : BitVec 32 := Scalar.muli arg7 c16_i32
  let v43 : BitVec 32 := v42
  let v44 : Index := Scalar.indexCast v43
  ![v44.toNat]

def k0_chk1 (v75 : IVec S16 32) : Prop :=
  (∀ a x, ((![v75] : Fin 1 → IVec S16 32) a x).toNat < S16384.size a)
theorem k0_idx1_inb : ∀ (v75 : IVec S16 32) (k0_hw1 : k0_chk1 v75), ∀ a x, ((![v75] : Fin 1 → IVec S16 32) a x).toNat < S16384.size a := fun v75 k0_hw1 => k0_hw1

def k0_chk2 (v89 : IVec S16 32) : Prop :=
  (∀ a x, ((![v89] : Fin 1 → IVec S16 32) a x).toNat < S16384.size a)
theorem k0_idx2_inb : ∀ (v89 : IVec S16 32) (k0_hw2 : k0_chk2 v89), ∀ a x, ((![v89] : Fin 1 → IVec S16 32) a x).toNat < S16384.size a := fun v89 k0_hw2 => k0_hw2

def k0_chk3 (v103 : IVec S16 32) : Prop :=
  (∀ a x, ((![v103] : Fin 1 → IVec S16 32) a x).toNat < S16384.size a)
theorem k0_idx3_inb : ∀ (v103 : IVec S16 32) (k0_hw3 : k0_chk3 v103), ∀ a x, ((![v103] : Fin 1 → IVec S16 32) a x).toNat < S16384.size a := fun v103 k0_hw3 => k0_hw3

def k0_chk4 (v117 : IVec S16 32) : Prop :=
  (∀ a x, ((![v117] : Fin 1 → IVec S16 32) a x).toNat < S16384.size a)
theorem k0_idx4_inb : ∀ (v117 : IVec S16 32) (k0_hw4 : k0_chk4 v117), ∀ a x, ((![v117] : Fin 1 → IVec S16 32) a x).toNat < S16384.size a := fun v117 k0_hw4 => k0_hw4

def k0_chk5 (v131 : IVec S16 32) : Prop :=
  (∀ a x, ((![v131] : Fin 1 → IVec S16 32) a x).toNat < S16384.size a)
theorem k0_idx5_inb : ∀ (v131 : IVec S16 32) (k0_hw5 : k0_chk5 v131), ∀ a x, ((![v131] : Fin 1 → IVec S16 32) a x).toNat < S16384.size a := fun v131 k0_hw5 => k0_hw5

def k0_chk6 (v145 : IVec S16 32) : Prop :=
  (∀ a x, ((![v145] : Fin 1 → IVec S16 32) a x).toNat < S16384.size a)
theorem k0_idx6_inb : ∀ (v145 : IVec S16 32) (k0_hw6 : k0_chk6 v145), ∀ a x, ((![v145] : Fin 1 → IVec S16 32) a x).toNat < S16384.size a := fun v145 k0_hw6 => k0_hw6

def k0_chk7 (v159 : IVec S16 32) : Prop :=
  (∀ a x, ((![v159] : Fin 1 → IVec S16 32) a x).toNat < S16384.size a)
theorem k0_idx7_inb : ∀ (v159 : IVec S16 32) (k0_hw7 : k0_chk7 v159), ∀ a x, ((![v159] : Fin 1 → IVec S16 32) a x).toNat < S16384.size a := fun v159 k0_hw7 => k0_hw7

def k0_chk8 (v173 : IVec S16 32) : Prop :=
  (∀ a x, ((![v173] : Fin 1 → IVec S16 32) a x).toNat < S16384.size a)
theorem k0_idx8_inb : ∀ (v173 : IVec S16 32) (k0_hw8 : k0_chk8 v173), ∀ a x, ((![v173] : Fin 1 → IVec S16 32) a x).toNat < S16384.size a := fun v173 k0_hw8 => k0_hw8

def k0_chk9 (v187 : IVec S16 32) : Prop :=
  (∀ a x, ((![v187] : Fin 1 → IVec S16 32) a x).toNat < S16384.size a)
theorem k0_idx9_inb : ∀ (v187 : IVec S16 32) (k0_hw9 : k0_chk9 v187), ∀ a x, ((![v187] : Fin 1 → IVec S16 32) a x).toNat < S16384.size a := fun v187 k0_hw9 => k0_hw9
@[reducible] def k0_t3_loop : Scf.Loop 32 :=
  let c0_i32_23 : BitVec 32 := 0#32
  let c64_i32_24 : BitVec 32 := 64#32
  let v41 : BitVec 32 := Scalar.addi c0_i32_23 c64_i32_24
  let c1_i32_25 : BitVec 32 := 1#32
  ⟨c0_i32_23, v41, c1_i32_25⟩
def k0_mult18 (k0_t3 : Fin k0_t3_loop.trips) : BitVec 32 :=
  let c0_i32_23 : BitVec 32 := 0#32
  let c1_i32_25 : BitVec 32 := 1#32
  let arg7 : BitVec 32 := Scf.iv c0_i32_23 c1_i32_25 k0_t3
  let c16_i32 : BitVec 32 := 16#32
  let v42 : BitVec 32 := Scalar.muli arg7 c16_i32
  v42
def k0_off4 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c16_i32 : BitVec 32 := 16#32
  let v42 : BitVec 32 := Scalar.muli arg7 c16_i32
  let v43 : BitVec 32 := v42
  let v44 : Index := Scalar.indexCast v43
  ![v44.toNat]
def k0_mult19 (k0_t3 : Fin k0_t3_loop.trips) : BitVec 32 :=
  let c1024_i32_28 : BitVec 32 := 1024#32
  let c0_i32_23 : BitVec 32 := 0#32
  let c1_i32_25 : BitVec 32 := 1#32
  let arg7 : BitVec 32 := Scf.iv c0_i32_23 c1_i32_25 k0_t3
  let c16_i32_27 : BitVec 32 := 16#32
  let v46 : BitVec 32 := Scalar.muli arg7 c16_i32_27
  let v47 : BitVec 32 := Scalar.addi c1024_i32_28 v46
  v47
def k0_off5 (k0_t3 : Fin k0_t3_loop.trips) (c1024_i32_28 : BitVec 32) : Fin 1 → Nat :=
  let c0_i32_23 : BitVec 32 := 0#32
  let c1_i32_25 : BitVec 32 := 1#32
  let arg7 : BitVec 32 := Scf.iv c0_i32_23 c1_i32_25 k0_t3
  let c16_i32_27 : BitVec 32 := 16#32
  let v46 : BitVec 32 := Scalar.muli arg7 c16_i32_27
  let v47 : BitVec 32 := Scalar.addi c1024_i32_28 v46
  let v48 : BitVec 32 := v47
  let v49 : Index := Scalar.indexCast v48
  ![v49.toNat]
def k0_mult20 (k0_t3 : Fin k0_t3_loop.trips) : BitVec 32 :=
  let c2048_i32_30 : BitVec 32 := 2048#32
  let c0_i32_23 : BitVec 32 := 0#32
  let c1_i32_25 : BitVec 32 := 1#32
  let arg7 : BitVec 32 := Scf.iv c0_i32_23 c1_i32_25 k0_t3
  let c16_i32_29 : BitVec 32 := 16#32
  let v52 : BitVec 32 := Scalar.muli arg7 c16_i32_29
  let v53 : BitVec 32 := Scalar.addi c2048_i32_30 v52
  v53
def k0_mult21 (k0_t3 : Fin k0_t3_loop.trips) : BitVec 32 :=
  let c3072_i32 : BitVec 32 := 3072#32
  let c0_i32_23 : BitVec 32 := 0#32
  let c1_i32_25 : BitVec 32 := 1#32
  let arg7 : BitVec 32 := Scf.iv c0_i32_23 c1_i32_25 k0_t3
  let c16_i32_31 : BitVec 32 := 16#32
  let v58 : BitVec 32 := Scalar.muli arg7 c16_i32_31
  let v59 : BitVec 32 := Scalar.addi c3072_i32 v58
  v59
def k0_mult22 (k0_t3 : Fin k0_t3_loop.trips) : BitVec 32 :=
  let c4096_i32 : BitVec 32 := 4096#32
  let c0_i32_23 : BitVec 32 := 0#32
  let c1_i32_25 : BitVec 32 := 1#32
  let arg7 : BitVec 32 := Scf.iv c0_i32_23 c1_i32_25 k0_t3
  let c16_i32_32 : BitVec 32 := 16#32
  let v64 : BitVec 32 := Scalar.muli arg7 c16_i32_32
  let v65 : BitVec 32 := Scalar.addi c4096_i32 v64
  v65
def k0_mult23 (k0_t3 : Fin k0_t3_loop.trips) : BitVec 32 :=
  let c5120_i32 : BitVec 32 := 5120#32
  let c0_i32_23 : BitVec 32 := 0#32
  let c1_i32_25 : BitVec 32 := 1#32
  let arg7 : BitVec 32 := Scf.iv c0_i32_23 c1_i32_25 k0_t3
  let c16_i32_33 : BitVec 32 := 16#32
  let v70 : BitVec 32 := Scalar.muli arg7 c16_i32_33
  let v71 : BitVec 32 := Scalar.addi c5120_i32 v70
  v71
def k0_mult24 (k0_t3 : Fin k0_t3_loop.trips) : BitVec 32 :=
  let c6144_i32 : BitVec 32 := 6144#32
  let c0_i32_23 : BitVec 32 := 0#32
  let c1_i32_25 : BitVec 32 := 1#32
  let arg7 : BitVec 32 := Scf.iv c0_i32_23 c1_i32_25 k0_t3
  let c16_i32_34 : BitVec 32 := 16#32
  let v76 : BitVec 32 := Scalar.muli arg7 c16_i32_34
  let v77 : BitVec 32 := Scalar.addi c6144_i32 v76
  v77
def k0_mult25 (k0_t3 : Fin k0_t3_loop.trips) : BitVec 32 :=
  let c7168_i32 : BitVec 32 := 7168#32
  let c0_i32_23 : BitVec 32 := 0#32
  let c1_i32_25 : BitVec 32 := 1#32
  let arg7 : BitVec 32 := Scf.iv c0_i32_23 c1_i32_25 k0_t3
  let c16_i32_35 : BitVec 32 := 16#32
  let v82 : BitVec 32 := Scalar.muli arg7 c16_i32_35
  let v83 : BitVec 32 := Scalar.addi c7168_i32 v82
  v83
def k0_mult26 (k0_t3 : Fin k0_t3_loop.trips) : BitVec 32 :=
  let c8192_i32 : BitVec 32 := 8192#32
  let c0_i32_23 : BitVec 32 := 0#32
  let c1_i32_25 : BitVec 32 := 1#32
  let arg7 : BitVec 32 := Scf.iv c0_i32_23 c1_i32_25 k0_t3
  let c16_i32_36 : BitVec 32 := 16#32
  let v88 : BitVec 32 := Scalar.muli arg7 c16_i32_36
  let v89 : BitVec 32 := Scalar.addi c8192_i32 v88
  v89
def k0_mult27 (k0_t3 : Fin k0_t3_loop.trips) : BitVec 32 :=
  let c9216_i32 : BitVec 32 := 9216#32
  let c0_i32_23 : BitVec 32 := 0#32
  let c1_i32_25 : BitVec 32 := 1#32
  let arg7 : BitVec 32 := Scf.iv c0_i32_23 c1_i32_25 k0_t3
  let c16_i32_37 : BitVec 32 := 16#32
  let v94 : BitVec 32 := Scalar.muli arg7 c16_i32_37
  let v95 : BitVec 32 := Scalar.addi c9216_i32 v94
  v95
def k0_mult28 (k0_t3 : Fin k0_t3_loop.trips) : BitVec 32 :=
  let c10240_i32 : BitVec 32 := 10240#32
  let c0_i32_23 : BitVec 32 := 0#32
  let c1_i32_25 : BitVec 32 := 1#32
  let arg7 : BitVec 32 := Scf.iv c0_i32_23 c1_i32_25 k0_t3
  let c16_i32_38 : BitVec 32 := 16#32
  let v100 : BitVec 32 := Scalar.muli arg7 c16_i32_38
  let v101 : BitVec 32 := Scalar.addi c10240_i32 v100
  v101
def k0_mult29 (k0_t3 : Fin k0_t3_loop.trips) : BitVec 32 :=
  let c11264_i32 : BitVec 32 := 11264#32
  let c0_i32_23 : BitVec 32 := 0#32
  let c1_i32_25 : BitVec 32 := 1#32
  let arg7 : BitVec 32 := Scf.iv c0_i32_23 c1_i32_25 k0_t3
  let c16_i32_39 : BitVec 32 := 16#32
  let v106 : BitVec 32 := Scalar.muli arg7 c16_i32_39
  let v107 : BitVec 32 := Scalar.addi c11264_i32 v106
  v107
def k0_mult30 (k0_t3 : Fin k0_t3_loop.trips) : BitVec 32 :=
  let c12288_i32 : BitVec 32 := 12288#32
  let c0_i32_23 : BitVec 32 := 0#32
  let c1_i32_25 : BitVec 32 := 1#32
  let arg7 : BitVec 32 := Scf.iv c0_i32_23 c1_i32_25 k0_t3
  let c16_i32_40 : BitVec 32 := 16#32
  let v112 : BitVec 32 := Scalar.muli arg7 c16_i32_40
  let v113 : BitVec 32 := Scalar.addi c12288_i32 v112
  v113
def k0_mult31 (k0_t3 : Fin k0_t3_loop.trips) : BitVec 32 :=
  let c13312_i32 : BitVec 32 := 13312#32
  let c0_i32_23 : BitVec 32 := 0#32
  let c1_i32_25 : BitVec 32 := 1#32
  let arg7 : BitVec 32 := Scf.iv c0_i32_23 c1_i32_25 k0_t3
  let c16_i32_41 : BitVec 32 := 16#32
  let v118 : BitVec 32 := Scalar.muli arg7 c16_i32_41
  let v119 : BitVec 32 := Scalar.addi c13312_i32 v118
  v119
def k0_mult32 (k0_t3 : Fin k0_t3_loop.trips) : BitVec 32 :=
  let c14336_i32 : BitVec 32 := 14336#32
  let c0_i32_23 : BitVec 32 := 0#32
  let c1_i32_25 : BitVec 32 := 1#32
  let arg7 : BitVec 32 := Scf.iv c0_i32_23 c1_i32_25 k0_t3
  let c16_i32_42 : BitVec 32 := 16#32
  let v124 : BitVec 32 := Scalar.muli arg7 c16_i32_42
  let v125 : BitVec 32 := Scalar.addi c14336_i32 v124
  v125
def k0_mult33 (k0_t3 : Fin k0_t3_loop.trips) : BitVec 32 :=
  let c15360_i32 : BitVec 32 := 15360#32
  let c0_i32_23 : BitVec 32 := 0#32
  let c1_i32_25 : BitVec 32 := 1#32
  let arg7 : BitVec 32 := Scf.iv c0_i32_23 c1_i32_25 k0_t3
  let c16_i32_43 : BitVec 32 := 16#32
  let v130 : BitVec 32 := Scalar.muli arg7 c16_i32_43
  let v131 : BitVec 32 := Scalar.addi c15360_i32 v130
  v131
def k0_mult34 (k0_t3 : Fin k0_t3_loop.trips) : BitVec 32 :=
  let c0_i32_23 : BitVec 32 := 0#32
  let c1_i32_25 : BitVec 32 := 1#32
  let arg7 : BitVec 32 := Scf.iv c0_i32_23 c1_i32_25 k0_t3
  let c16_i32_44 : BitVec 32 := 16#32
  let v136 : BitVec 32 := Scalar.muli arg7 c16_i32_44
  v136
def k0_off6 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c16_i32_44 : BitVec 32 := 16#32
  let v136 : BitVec 32 := Scalar.muli arg7 c16_i32_44
  let v137 : BitVec 32 := v136
  let v138 : Index := Scalar.indexCast v137
  ![v138.toNat]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27_r1 : BitVec 32 := 0#32
  ![v1.toNat, 0]
abbrev grid1 : Pipeline.Grid := .none

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg_half_rho2" => some ((-524288 / 1046529 : ℝ) : EReal)
  | "neg_rho2" => some ((-1048576 / 1046529 : ℝ) : EReal)
  | "rho2" => some ((1048576 / 1046529 : ℝ) : EReal)
  | "scale" => some (((8192 * (Real.sqrt (2 * Real.pi)))⁻¹ : ℝ) : EReal)
  | _ => none
-- ==== ReferenceIdeal.lean ====
abbrev S1048576 : Shape := ⟨1, ![1048576]⟩
abbrev S_ : Shape := ⟨0, ![]⟩
abbrev S1023 : Shape := ⟨1, ![1023]⟩
abbrev S1 : Shape := ⟨1, ![1]⟩
abbrev S1024 : Shape := ⟨1, ![1024]⟩
abbrev S1048576x1 : Shape := ⟨2, ![1048576, 1]⟩
abbrev S1x1024 : Shape := ⟨2, ![1, 1024]⟩
abbrev S1048576x1024 : Shape := ⟨2, ![1048576, 1024]⟩

abbrev nBuf : Space → Nat
  | .hbm => 83
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1023, .f32⟩
  | .hbm, ⟨9, _⟩ => ⟨S_, .f32⟩
  | .hbm, ⟨10, _⟩ => ⟨S1023, .f32⟩
  | .hbm, ⟨11, _⟩ => ⟨S1023, .f32⟩
  | .hbm, ⟨12, _⟩ => ⟨S1, .f32⟩
  | .hbm, ⟨13, _⟩ => ⟨S_, .f32⟩
  | .hbm, ⟨14, _⟩ => ⟨S1023, .f32⟩
  | .hbm, ⟨15, _⟩ => ⟨S1023, .f32⟩
  | .hbm, ⟨16, _⟩ => ⟨S1023, .f32⟩
  | .hbm, ⟨17, _⟩ => ⟨S1023, .f32⟩
  | .hbm, ⟨18, _⟩ => ⟨S1, .f32⟩
  | .hbm, ⟨19, _⟩ => ⟨S1023, .f32⟩
  | .hbm, ⟨20, _⟩ => ⟨S1023, .f32⟩
  | .hbm, ⟨21, _⟩ => ⟨S1023, .f32⟩
  | .hbm, ⟨22, _⟩ => ⟨S1, .f32⟩
  | .hbm, ⟨23, _⟩ => ⟨S1024, .f32⟩
  | .hbm, ⟨24, _⟩ => ⟨S1048576x1, .f32⟩
  | .hbm, ⟨25, _⟩ => ⟨S1x1024, .f32⟩
  | .hbm, ⟨26, _⟩ => ⟨S1048576x1024, .f32⟩
  | .hbm, ⟨27, _⟩ => ⟨S1048576x1024, .f32⟩
  | .hbm, ⟨28, _⟩ => ⟨S1048576x1024, .f32⟩
  | .hbm, ⟨29, _⟩ => ⟨S_, .f32⟩
  | .hbm, ⟨30, _⟩ => ⟨S1048576x1024, .f32⟩
  | .hbm, ⟨31, _⟩ => ⟨S1048576x1024, .f32⟩
  | .hbm, ⟨32, _⟩ => ⟨S_, .f32⟩
  | .hbm, ⟨33, _⟩ => ⟨S1048576x1024, .f32⟩
  | .hbm, ⟨34, _⟩ => ⟨S1048576x1024, .f32⟩
  | .hbm, ⟨35, _⟩ => ⟨S1048576x1024, .f32⟩
  | .hbm, ⟨36, _⟩ => ⟨S1048576x1024, .f32⟩
  | .hbm, ⟨37, _⟩ => ⟨S_, .f32⟩
  | .hbm, ⟨38, _⟩ => ⟨S1048576, .f32⟩
  | .hbm, ⟨39, _⟩ => ⟨S1048576, .f32⟩
  | .hbm, ⟨40, _⟩ => ⟨S_, .f32⟩
  | .hbm, ⟨41, _⟩ => ⟨S1048576, .f32⟩
  | .hbm, ⟨42, _⟩ => ⟨S1048576, .f32⟩
  | .hbm, ⟨43, _⟩ => ⟨S_, .f32⟩
  | .hbm, ⟨44, _⟩ => ⟨S1048576, .f32⟩
  | .hbm, ⟨45, _⟩ => ⟨S1048576, .f32⟩
  | .hbm, ⟨46, _⟩ => ⟨S1048576, .i32⟩
  | .hbm, ⟨47, _⟩ => ⟨S1024, .i32⟩
  | .hbm, ⟨48, _⟩ => ⟨S1048576x1, .i32⟩
  | .hbm, ⟨49, _⟩ => ⟨S1x1024, .i32⟩
  | .hbm, ⟨50, _⟩ => ⟨S_, .i32⟩
  | .hbm, ⟨51, _⟩ => ⟨S1x1024, .i32⟩
  | .hbm, ⟨52, _⟩ => ⟨S1x1024, .i32⟩
  | .hbm, ⟨53, _⟩ => ⟨S1048576x1024, .i32⟩
  | .hbm, ⟨54, _⟩ => ⟨S1048576x1024, .i32⟩
  | .hbm, ⟨55, _⟩ => ⟨S1048576x1024, .i1⟩
  | .hbm, ⟨56, _⟩ => ⟨S1048576x1, .i32⟩
  | .hbm, ⟨57, _⟩ => ⟨S1x1024, .i32⟩
  | .hbm, ⟨58, _⟩ => ⟨S_, .i32⟩
  | .hbm, ⟨59, _⟩ => ⟨S1x1024, .i32⟩
  | .hbm, ⟨60, _⟩ => ⟨S1x1024, .i32⟩
  | .hbm, ⟨61, _⟩ => ⟨S1048576x1024, .i32⟩
  | .hbm, ⟨62, _⟩ => ⟨S1048576x1024, .i32⟩
  | .hbm, ⟨63, _⟩ => ⟨S1048576x1024, .i1⟩
  | .hbm, ⟨64, _⟩ => ⟨S1048576x1024, .i1⟩
  | .hbm, ⟨65, _⟩ => ⟨S_, .f32⟩
  | .hbm, ⟨66, _⟩ => ⟨S_, .f32⟩
  | .hbm, ⟨67, _⟩ => ⟨S1048576x1024, .f32⟩
  | .hbm, ⟨68, _⟩ => ⟨S1048576x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1024, .f32⟩
  | .hbm, ⟨82, _⟩ => ⟨S1024, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_cst_2 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_3 : Ref sig .tc := ⟨.hbm, 37, rfl⟩
abbrev main_v12 : Ref sig .tc := ⟨.hbm, 38, rfl⟩
abbrev main_v13 : Ref sig .tc := ⟨.hbm, 39, rfl⟩
abbrev main_cst_4 : Ref sig .tc := ⟨.hbm, 40, rfl⟩
abbrev main_v14 : Ref sig .tc := ⟨.hbm, 41, rfl⟩
abbrev main_v15 : Ref sig .tc := ⟨.hbm, 42, rfl⟩
abbrev main_cst_5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_cst_9 : Ref sig .tc := ⟨.hbm, 71, rfl⟩
abbrev main_cst_10 : Ref sig .tc := ⟨.hbm, 72, rfl⟩
abbrev main_v37 : Ref sig .tc := ⟨.hbm, 73, rfl⟩
abbrev main_cst_11 : Ref sig .tc := ⟨.hbm, 74, rfl⟩
abbrev main_cst_12 : Ref sig .tc := ⟨.hbm, 75, rfl⟩
abbrev main_v38 : Ref sig .tc := ⟨.hbm, 76, rfl⟩
abbrev main_cst_13 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩

abbrev nD : Nat := 1
abbrev τ : Topo := Topo.v7x

variable {F : FTy → Type} [FloatOps F]
-- ==== Proof.KernelIdeal.Model.lean ====
/-
  What one tile of the histogram kernel computes, as pure functions of the samples it holds, generic in the
  float instance. A tile keeps sixteen histograms of 1024 bins, one per lane, side by side in one array of
  16384 entries (`lane * 1024 + bin`). For each vector of sixteen samples it adds, per lane, nine weights to the
  nine bins around the sample's nearest bin (`step`); after all vectors it sums the sixteen histograms (`total`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof.HistKernelIdeal

open Cert.KernelIdeal Cert.KernelIdeal.Gen
open Idealize.ShloMosaic

variable {F : FTy → Type} [FloatOps F] [Named F]

/-- The word added to the nearest bin for the `n`-th of the nine weights: `n - 4`. -/
def shiftWord (n : ℕ) : BitVec 32 := BitVec.ofNat 32 (4294967292 + n)

/-- The bins of the `n`-th weight, one per lane. -/
def binWords (x : Vec F S16 .f32) (n : ℕ) : IVec S16 32 := addi (k0_pay10 x) (broadcast S16 (shiftWord n))

/-- The entry a lane's weight goes to: its own histogram's, the bin clamped into the histogram. -/
def slotWords (w : IVec S16 32) : IVec S16 32 :=
  addi k0_pay1 (minsi (maxsi w (broadcast S16 0#32)) (broadcast S16 1023#32))

/-- Whether the bin is one of the 1024. -/
def inBins (w : IVec S16 32) : IVec S16 1 :=
  andi (cmpi .sge w (broadcast S16 0#32)) (cmpi .slt w (broadcast S16 1024#32))

/-- Clamping a word into `0 … 1023`, as a signed word, leaves a natural number of at most 1023. -/
theorem clamp_le (w : BitVec 32) : (IntOp.minsi (IntOp.maxsi w 0#32) 1023#32).toNat ≤ 1023 := by
  have h0 : (0#32 : BitVec 32).toInt = 0 := by decide
  have h1 : (1023#32 : BitVec 32).toInt = 1023 := by decide
  have hw := BitVec.toInt_eq_toNat_cond w
  simp only [IntOp.minsi, IntOp.maxsi, BitVec.slt_eq_decide, BitVec.sle_eq_decide, decide_eq_true_eq]
  split_ifs <;> simp_all <;> omega

/-- The lane's first entry. -/
theorem lane_base (x : S16.Idx) : (k0_pay1 x).toNat = 1024 * (x 0).val := by
  have hx : (x 0).val < 16 := (x 0).isLt
  have : k0_pay1 x = IntOp.muli (BitVec.ofNat 32 (x 0).val) 1024#32 := by
    simp [k0_pay1, muli, iota, broadcast]
  rw [this]
  simp only [IntOp.muli, BitVec.toNat_mul, BitVec.toNat_ofNat]
  omega

/-- The entry a lane's weight goes to, as a natural number. -/
theorem slot_toNat (w : IVec S16 32) (x : S16.Idx) :
    (slotWords w x).toNat = 1024 * (x 0).val + (IntOp.minsi (IntOp.maxsi (w x) 0#32) 1023#32).toNat := by
  have hx : (x 0).val < 16 := (x 0).isLt
  have h1 := lane_base x
  have h2 := clamp_le (w x)
  have : slotWords w x = IntOp.addi (k0_pay1 x) (IntOp.minsi (IntOp.maxsi (w x) 0#32) 1023#32) := rfl
  rw [this]
  simp only [IntOp.addi, BitVec.toNat_add]
  omega

/-- Every such entry lies inside the array. -/
theorem slot_lt (w : IVec S16 32) : ∀ a x, ((![slotWords w] : Fin 1 → IVec S16 32) a x).toNat < S16384.size a := by
  intro a x
  have hx : (x 0).val < 16 := (x 0).isLt
  have h2 := clamp_le (w x)
  match a with
  | 0 =>
    show (slotWords w x).toNat < 16384
    rw [slot_toNat]; omega

/-- One masked scatter-add: each lane adds its weight to its own histogram at its bin. -/
def addBin (f : Vec F S16384 .f32) (w : IVec S16 32) (v : FVec F S16 .f32) : Vec F S16384 .f32 :=
  storeIdx f ![slotWords w] v (inBins w) true (slot_lt w)

/-- The constant ratios `exp (-ρ² (n - 7/2))` of neighbouring weights. -/
def ratio : ℕ → FVec F S16 .f32
  | 0 => k0_pay49
  | 1 => k0_pay50
  | 2 => k0_pay51
  | 3 => k0_pay52
  | 4 => k0_pay53
  | 5 => k0_pay54
  | 6 => k0_pay55
  | _ => exp (mulf k0_pay56 (broadcast S16 (Named.named κ "neg_rho2" 0xBF804018#32)))

/-- The nine weights of a vector of samples: the first by its exponential, each next from the one before. -/
def weight (x : Vec F S16 .f32) : ℕ → FVec F S16 .f32
  | 0 => k0_pay13 x
  | n + 1 => mulf (weight x n) (mulf (k0_pay12 x) (ratio n))

/-- The first `n` of the nine scatter-adds. -/
def partStep (x : Vec F S16 .f32) (f : Vec F S16384 .f32) : ℕ → Vec F S16384 .f32
  | 0 => f
  | n + 1 => addBin (partStep x f n) (binWords x n) (weight x n)

/-- All nine. -/
abbrev step (x : Vec F S16 .f32) (f : Vec F S16384 .f32) : Vec F S16384 .f32 := partStep x f 9

/-- The `k`-th vector of a tile's 32768 samples. -/
def vec16 (xs : Vec F S32768 .f32) (k : ℕ) (h : k < 2048) : Vec F S16 .f32 := fun j =>
  xs fun a => match a with | 0 => ⟨16 * k + (j 0).val, by have : (j 0).val < 16 := (j 0).isLt; show _ < 32768; omega⟩

/-- The sixteen histograms after the first `k` vectors. -/
def hists (xs : Vec F S32768 .f32) : ℕ → Vec F S16384 .f32
  | 0 => fun _ => Scalar.ofBits .f32 0#32
  | k + 1 => if h : k < 2048 then step (vec16 xs k h) (hists xs k) else hists xs k

/-- Sixteen neighbouring bins of lane `r`'s histogram. -/
def laneRow (f : Vec F S16384 .f32) (k : ℕ) (hk : k < 64) (r : Fin 16) : Vec F S16 .f32 := fun j =>
  f fun a => match a with | 0 => ⟨1024 * r.val + 16 * k + (j 0).val, by have : (j 0).val < 16 := (j 0).isLt; show _ < 16384; omega⟩

/-- The sum of the lanes' histograms over sixteen neighbouring bins. -/
def lanesSum (f : Vec F S16384 .f32) (k : ℕ) (hk : k < 64) : Vec F S16 .f32 :=
  let r := laneRow f k hk
  k0_pay8 (k0_pay47 (k0_pay46 (r 0) (r 1) (r 2) (r 3) (r 4) (r 5) (r 6)) (r 7) (r 8) (r 9) (r 10) (r 11) (r 12) (r 13) (r 14)) (r 15)

/-- The sum of the sixteen histograms. -/
def total (f : Vec F S16384 .f32) : Vec F S1024 .f32 := fun j =>
  lanesSum f ((j 0).val / 16) (by have : (j 0).val < 1024 := (j 0).isLt; omega)
    fun a => match a with | 0 => ⟨(j 0).val % 16, Nat.mod_lt _ (by decide)⟩

/-- What a tile leaves of its 32768 samples: its histogram of 1024 bins. -/
def tileHist (xs : Vec F S32768 .f32) : Vec F S1024 .f32 := total (hists xs 2048)

end Cert.Proof.HistKernelIdeal

end
-- ==== Proof.KernelIdeal.Tile.lean ====
/-
  The tile's three loops over its lane histograms, each run on memory: clearing them, adding the samples, and summing
  them into one row. Each theorem says which pure function of `Model` a loop's body or the whole loop leaves behind.
-/
module

public import proofs.«01_k».proof.Proof.KernelIdeal.Model

@[expose] public section

noncomputable section

namespace Cert.Proof.HistKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The loops' labels. -/
abbrev ΛP : Labels := Pipeline.Sig Λ₀ (Fin 1) fun p => (pcfgs (F := F) p).Adm
/-- No loop variants. -/
abbrev 𝒱₀ : Variants := Variants.none
/-- The handshakes' ghost state. -/
abbrev UH : Type := URounds (GSem nD τ sig) ℕ
/-- All ghost state: the handshakes', the pipeline's and the counters'. -/
abbrev UU : Type := UH × (URounds (GSem nD τ sig) Unit × Counters)

local notation "𝕄" => MT nD τ sig (HIx 1) (Elt F) ℕ UU ℕ

local notation "xV" => (Memref.whole Cert.KernelIdeal.main_arg0_scv : Memref Cert.KernelIdeal.sig Kind.scVector Space.hbm Cert.KernelIdeal.S1048576 EltTy.f32)
local notation "oV" => (Memref.whole Cert.KernelIdeal.main_v0_scv : Memref Cert.KernelIdeal.sig Kind.scVector Space.hbm Cert.KernelIdeal.S32x1024 EltTy.f32)
local notation "sX" => (Memref.whole Cert.KernelIdeal.cc0_scratch0 : Memref Cert.KernelIdeal.sig Kind.scVector Space.vmem Cert.KernelIdeal.S32768 EltTy.f32)
local notation "sA" => (Memref.whole Cert.KernelIdeal.cc0_scratch1 : Memref Cert.KernelIdeal.sig Kind.scVector Space.vmem Cert.KernelIdeal.S16384 EltTy.f32)
local notation "sP" => (Memref.whole Cert.KernelIdeal.cc0_scratch2 : Memref Cert.KernelIdeal.sig Kind.scVector Space.vmem Cert.KernelIdeal.S1024 EltTy.f32)

/-- A grid point's SparseCore, -/
abbrev cV (L : grid0.Coords) : Fin τ.nSC := (L 0).castLE hcore0
/-- and its tile. -/
abbrev jV (L : grid0.Coords) : Fin τ.nSub := (L 1).castLE hsub0

variable [FloatOps F] [Named F] (d : Dev nD) (L : grid0.Coords)

/-! ## Zeroing the histograms -/

/-- After `k` trips of the zeroing loop and the first `r` lanes of the next. -/
def Zeroed (k r : ℕ) (f : Vec F S16384 .f32) : Prop :=
  ∀ j : S16384.Idx, ((j 0).val % 1024 < 16 * k ∨ ((j 0).val % 1024 < 16 * k + 16 ∧ (j 0).val < 1024 * r)) → f j = Scalar.ofBits .f32 0#32

/-- One of the sixteen stores of a trip: the next lane's sixteen entries are zero as well. -/
theorem Zeroed.cons {k r : ℕ} {f : Vec F S16384 .f32} {l : List (View.Piece (Elt F) S16384 .f32)} {off : Fin 1 → ℕ}
    (h : ∀ a, off a + S16.size a ≤ S16384.size a) (hk : k < 64) (hoff : off = ![1024 * r + 16 * k])
    (hz : Zeroed k r ((sA).view.writes (Elt F) f l)) :
    Zeroed k (r + 1) ((sA).view.writes (Elt F) f (⟨Rect.unit (s := S16384) off S16.size h, k0_pay48⟩ :: l)) := by
  intro j hj
  have ho : off 0 = 1024 * r + 16 * k := by rw [hoff]; rfl
  by_cases hin : 1024 * r + 16 * k ≤ (j 0).val ∧ (j 0).val < 1024 * r + 16 * k + 16
  · refine View.read_writes_cons_hit_of_coords (sA).view f (Rect.unit (s := S16384) off S16.size h) k0_pay48 l
      (fun a => match a with | 0 => (⟨(j 0).val - (1024 * r + 16 * k), by show _ < 16; omega⟩ : Fin 16)) j ?_
    intro a
    match a with
    | 0 => show (j 0).val = off 0 + 1 * ((j 0).val - (1024 * r + 16 * k)); omega
  · refine (View.read_writes_cons_miss_of_axis (sA).view f ⟨Rect.unit (s := S16384) off S16.size h, k0_pay48⟩ l j 0 (1024 * r + 16 * k) 16 ho rfl rfl (by omega)).trans ?_
    exact hz j (by omega)

set_option maxHeartbeats 4000000 in
/-- One trip of the zeroing loop: sixteen more bins of every lane's histogram are zero. -/
theorem zero_trip (k : Fin k0_t1_loop.trips) (f : Buf (Elt F) ((V d (cV L) (jV L)).loc cc0_scratch1)) (hf : Zeroed k.val 0 f) :
    ((sA).view.loc (V d (cV L) (jV L)) ↦{fullShare} f : sProp 𝕄)
      ⊢ wp frame (wpE (defs₀ (F := F)) 𝒱₀ (V d (cV L) (jV L)) none) Set.univ
          (k0_t1_body L xV (Memref.isWhole_whole _) oV (Memref.isWhole_whole _) sX (Memref.isWhole_whole _) sA (Memref.isWhole_whole _)
            sP (Memref.isWhole_whole _) cc0_scoped0 cc0_scoped1 k0_pay48 k ())
          fun _ => iprop(∃ f' : Buf (Elt F) ((V d (cV L) (jV L)).loc cc0_scratch1), ⌜Zeroed (k.val + 1) 0 f'⌝ ∗ (sA).view.loc (V d (cV L) (jV L)) ↦{fullShare} f') := by
  have hk : k.val < 64 := Nat.lt_of_lt_of_le k.isLt k0_t1_abs.2.1
  iintro Ha
  sl_unfold [k0_t1_body, k0_part1, k0_part2]
  sl_exec
  sl_step
  iexists _; isplitr
  swap; · iexact Ha
  ipureintro
  have h16 := Zeroed.cons (k0_off2_inb k 15) hk (k0_off2_eq k 15) <| Zeroed.cons (k0_off2_inb k 14) hk (k0_off2_eq k 14) <| Zeroed.cons (k0_off2_inb k 13) hk (k0_off2_eq k 13) <|
    Zeroed.cons (k0_off2_inb k 12) hk (k0_off2_eq k 12) <| Zeroed.cons (k0_off2_inb k 11) hk (k0_off2_eq k 11) <| Zeroed.cons (k0_off2_inb k 10) hk (k0_off2_eq k 10) <|
    Zeroed.cons (k0_off2_inb k 9) hk (k0_off2_eq k 9) <| Zeroed.cons (k0_off2_inb k 8) hk (k0_off2_eq k 8) <| Zeroed.cons (k0_off2_inb k 7) hk (k0_off2_eq k 7) <|
    Zeroed.cons (k0_off2_inb k 6) hk (k0_off2_eq k 6) <| Zeroed.cons (k0_off2_inb k 5) hk (k0_off2_eq k 5) <| Zeroed.cons (k0_off2_inb k 4) hk (k0_off2_eq k 4) <|
    Zeroed.cons (k0_off2_inb k 3) hk (k0_off2_eq k 3) <| Zeroed.cons (k0_off2_inb k 2) hk (k0_off2_eq k 2) <| Zeroed.cons (k0_off2_inb k 1) hk (k0_off2_eq k 1) <|
    Zeroed.cons (f := f) (l := []) (k0_off2_inb k 0) hk (k0_off2_eq k 0) hf
  intro j hj
  exact h16 j (by have : (j 0).val < 16384 := (j 0).isLt; omega)

/-! ## Adding one vector of samples -/

/-- A checked condition that holds, at the head of a program. -/
theorem wp_checked {p : Prop} {hd : Decidable p} (h : p) {α : Type}
    {k : PLift p → Prog (TpuEff nD τ sig (Elt F) Λ₀ (.scVector (cV L) (jV L))) α} {Q : α → sProp 𝕄} :
    wp frame (wpE (defs₀ (F := F)) 𝒱₀ (V d (cV L) (jV L)) none) Set.univ (k ⟨h⟩) Q
      ⊢ wp frame (wpE (defs₀ (F := F)) 𝒱₀ (V d (cV L) (jV L)) none) Set.univ (Prog.lift (.assume p hd) >>= k) Q :=
  Entails.of_eq (wp_assume_of 𝒱₀ (V d (cV L) (jV L)) none Set.univ h).symm

/-- One of the nine scatter-adds at the head of a program. -/
theorem wp_bump {idx : IVec S16 32} {mask : IVec S16 1} {v : FVec F S16 .f32} (w : IVec S16 32) (hi : idx = slotWords w) (hm : mask = inBins w)
    {h : ∀ a x, ((![idx] : Fin 1 → IVec S16 32) a x).toNat < S16384.size a} {hs : ((sA).access (.whole S16384)).Stores Finset.univ} {α : Type}
    {k : PUnit → Prog (TpuEff nD τ sig (Elt F) Λ₀ (.scVector (cV L) (jV L))) α} {Q : α → sProp 𝕄} {f : Vec F S16384 .f32} :
    ((V d (cV L) (jV L)).loc cc0_scratch1 ↦{fullShare} f)
      ⊢ iprop((((V d (cV L) (jV L)).loc cc0_scratch1 ↦{fullShare} addBin f w v)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx sA ![idx] v mask true h hs >>= k) Q) := by
  subst hi hm
  have hw := SparseCore.wp_vectorStoreIdx (defs := defs₀ (F := F)) 𝒱₀ (V d (cV L) (jV L)) none Set.univ (base := sA) (idxs := ![slotWords w]) (v := v)
    (mask := inBins w) (add := true) (h := h) (hs := hs) (k := k) (Q := Q) (f := f) (Ix := HIx 1) (Name := ℕ) (U := UU) (Lvl := ℕ)
  rw [Memref.set_access_whole, Memref.read_access_whole, Memref.write_access_whole_univ] at hw
  exact hw

set_option maxHeartbeats 4000000 in
/-- One trip of the middle loop, on memory: from lane histograms `f` it leaves `step` of them and of the sixteen
samples it loads. -/
theorem add_trip (k : Fin k0_t2_loop.trips) (hk : k.val < 2048) (xs : Buf (Elt F) ((V d (cV L) (jV L)).loc cc0_scratch0)) (f : Vec F S16384 .f32) :
    iprop(((V d (cV L) (jV L)).loc cc0_scratch0 ↦{fullShare} xs) ∗ (V d (cV L) (jV L)).loc cc0_scratch1 ↦{fullShare} f)
      ⊢ (wp frame (wpE (defs₀ (F := F)) 𝒱₀ (V d (cV L) (jV L)) none) Set.univ
          (k0_t2_body L xV (Memref.isWhole_whole _) oV (Memref.isWhole_whole _) sX (Memref.isWhole_whole _) sA (Memref.isWhole_whole _)
            sP (Memref.isWhole_whole _) cc0_scoped0 cc0_scoped1 k0_pay49 k0_pay50 k0_pay51 k0_pay52 k0_pay53 k0_pay54 k0_pay55 k0_pay56
            (Named.named κ "neg_rho2" 0xBF804018#32) k ())
          fun _ => iprop(((V d (cV L) (jV L)).loc cc0_scratch0 ↦{fullShare} xs)
            ∗ (V d (cV L) (jV L)).loc cc0_scratch1 ↦{fullShare} step (vec16 xs k.val hk) f) : sProp 𝕄) := by
  unfold k0_t2_body
  simp only [k0_part3_eq_skeleton, k0_part4_eq_skeleton, k0_part5_eq_skeleton]
  unfold k0_part3_skel k0_part4_skel k0_part5_skel
  simp only [bind_assoc, pure_bind]
  have hld : ((sX).view.readAt (Elt F) (Rect.unit (s := S32768) (k0_off3 k) S16.size (k0_off3_inb k)).toLoadRect xs : Vec F S16 .f32) = vec16 xs k.val hk := by
    funext j
    refine congrArg xs (funext fun a => ?_)
    match a with
    | 0 =>
      refine Fin.ext ?_
      have e : k0_off3 k 0 = 16 * k.val := congrFun (k0_off3_eq k) 0
      show k0_off3 k 0 + 1 * (j 0).val = 16 * k.val + (j 0).val
      omega
  iintro ⟨Hx, Ha⟩
  iapply (wp_load 𝒱₀ (V d (cV L) (jV L)) none Set.univ (m := sX) (S := Finset.univ) (Finset.subset_univ _)) $$ Hx; iintro Hx
  rw [hld]
  generalize vec16 xs k.val hk = x
  iapply (wp_checked d L (slot_lt (binWords x 0)))
  iapply (wp_bump d L (binWords x 0) rfl rfl) $$ Ha; iintro Ha
  iapply (wp_checked d L (slot_lt (binWords x 1)))
  iapply (wp_bump d L (binWords x 1) rfl rfl) $$ Ha; iintro Ha
  iapply (wp_checked d L (slot_lt (binWords x 2)))
  iapply (wp_bump d L (binWords x 2) rfl rfl) $$ Ha; iintro Ha
  iapply (wp_checked d L (slot_lt (binWords x 3)))
  iapply (wp_bump d L (binWords x 3) rfl rfl) $$ Ha; iintro Ha
  iapply (wp_checked d L (slot_lt (binWords x 4)))
  iapply (wp_bump d L (binWords x 4) rfl rfl) $$ Ha; iintro Ha
  iapply (wp_checked d L (slot_lt (binWords x 5)))
  iapply (wp_bump d L (binWords x 5) rfl rfl) $$ Ha; iintro Ha
  iapply (wp_checked d L (slot_lt (binWords x 6)))
  iapply (wp_bump d L (binWords x 6) rfl rfl) $$ Ha; iintro Ha
  iapply (wp_checked d L (slot_lt (binWords x 7)))
  iapply (wp_bump d L (binWords x 7) rfl rfl) $$ Ha; iintro Ha
  iapply (wp_checked d L (slot_lt (binWords x 8)))
  iapply (wp_bump d L (binWords x 8) rfl rfl) $$ Ha; iintro Ha
  sl_step
  isplitl [Hx]; · iexact Hx
  iexact Ha

/-! ## Summing the lanes -/

/-- The first `16 k` bins of the tile's histogram are written. -/
def Summed (acc : Vec F S16384 .f32) (k : ℕ) (p : Vec F S1024 .f32) : Prop := ∀ j : S1024.Idx, (j 0).val < 16 * k → p j = total acc j

/-- The load of sixteen neighbouring bins of one lane. -/
theorem laneRow_eq (k : Fin k0_t3_loop.trips) (hk : k.val < 64) (r : Fin 16) (acc : Vec F S16384 .f32) {off : Fin 1 → ℕ}
    (h : ∀ a, off a + S16.size a ≤ S16384.size a) (e : off 0 = 1024 * r.val + 16 * k.val) :
    ((sA).view.readAt (Elt F) (Rect.unit (s := S16384) off S16.size h).toLoadRect acc : Vec F S16 .f32) = laneRow acc k.val hk r := by
  funext j
  refine congrArg acc (funext fun a => ?_)
  match a with
  | 0 =>
    refine Fin.ext ?_
    show off 0 + 1 * (j 0).val = 1024 * r.val + 16 * k.val + (j 0).val
    omega

/-- The store of a trip: sixteen more bins are written. -/
theorem Summed.cons {acc : Vec F S16384 .f32} {k : ℕ} {p : Vec F S1024 .f32} {off : Fin 1 → ℕ} {v : FVec F S16 .f32}
    (h : ∀ a, off a + S16.size a ≤ S1024.size a) (hk : k < 64) (ho : off 0 = 16 * k) (hp : Summed acc k p) (hv : v = lanesSum acc k hk) :
    Summed acc (k + 1) ((sP).view.writes (Elt F) p [⟨Rect.unit (s := S1024) off S16.size h, v⟩]) := by
  subst hv
  intro j hj
  by_cases hin : 16 * k ≤ (j 0).val
  · refine (View.read_writes_cons_hit_of_coords (sP).view p (Rect.unit (s := S1024) off S16.size h) (lanesSum acc k hk) []
      (fun a => match a with | 0 => (⟨(j 0).val - 16 * k, by show _ < 16; omega⟩ : Fin 16)) j ?_).trans ?_
    · intro a
      match a with
      | 0 => show (j 0).val = off 0 + 1 * ((j 0).val - 16 * k); omega
    · have hd : (j 0).val / 16 = k := by omega
      unfold total
      subst hd
      refine congrArg _ (funext fun a => ?_)
      match a with
      | 0 => exact Fin.ext (show (j 0).val - 16 * ((j 0).val / 16) = (j 0).val % 16 by omega)
  · refine (View.read_writes_cons_miss_of_axis (sP).view p ⟨Rect.unit (s := S1024) off S16.size h, lanesSum acc k hk⟩ [] j 0 (16 * k) 16 ho rfl rfl (by omega)).trans ?_
    exact hp j (by omega)

set_option maxHeartbeats 4000000 in
/-- One trip of the summing loop: sixteen more bins of the tile's histogram. -/
theorem sum_trip (k : Fin k0_t3_loop.trips) (acc : Buf (Elt F) ((V d (cV L) (jV L)).loc cc0_scratch1)) (p : Buf (Elt F) ((V d (cV L) (jV L)).loc cc0_scratch2))
    (hp : Summed acc k.val p) :
    iprop(((sA).view.loc (V d (cV L) (jV L)) ↦{fullShare} acc) ∗ (sP).view.loc (V d (cV L) (jV L)) ↦{fullShare} p)
      ⊢ (wp frame (wpE (defs₀ (F := F)) 𝒱₀ (V d (cV L) (jV L)) none) Set.univ
          (k0_t3_body L xV (Memref.isWhole_whole _) oV (Memref.isWhole_whole _) sX (Memref.isWhole_whole _) sA (Memref.isWhole_whole _)
            sP (Memref.isWhole_whole _) cc0_scoped0 cc0_scoped1 k ())
          fun _ => iprop(((sA).view.loc (V d (cV L) (jV L)) ↦{fullShare} acc)
            ∗ ∃ p' : Buf (Elt F) ((V d (cV L) (jV L)).loc cc0_scratch2), ⌜Summed acc (k.val + 1) p'⌝ ∗ (sP).view.loc (V d (cV L) (jV L)) ↦{fullShare} p') : sProp 𝕄) := by
  have hk : k.val < 64 := Nat.lt_of_lt_of_le k.isLt k0_t3_abs.2.1
  unfold k0_t3_body
  simp only [k0_part6_eq_skeleton, k0_part7_eq_skeleton]
  unfold k0_part6_skel k0_part7_skel
  simp only [bind_assoc, pure_bind]
  iintro ⟨Ha, Hp⟩
  ihave Ha := (show (_ : sProp 𝕄) ⊢ ((sA).view.loc (V d (cV L) (jV L)) ↦{fullShare} acc) from .rfl) $$ Ha
  ihave Hp := (show (_ : sProp 𝕄) ⊢ ((sP).view.loc (V d (cV L) (jV L)) ↦{fullShare} p) from .rfl) $$ Hp
  sl_exec
  sl_step
  isplitl [Ha]; · iexact Ha
  iexists _; isplitr
  swap; · iexact Hp
  ipureintro
  refine Summed.cons (k0_off6_inb k) hk (congrFun (k0_off6_eq k) 0) hp ?_
  show _ = k0_pay8 (k0_pay47 (k0_pay46 (laneRow acc k.val hk 0) (laneRow acc k.val hk 1) (laneRow acc k.val hk 2) (laneRow acc k.val hk 3)
      (laneRow acc k.val hk 4) (laneRow acc k.val hk 5) (laneRow acc k.val hk 6)) (laneRow acc k.val hk 7) (laneRow acc k.val hk 8)
      (laneRow acc k.val hk 9) (laneRow acc k.val hk 10) (laneRow acc k.val hk 11) (laneRow acc k.val hk 12) (laneRow acc k.val hk 13)
      (laneRow acc k.val hk 14)) (laneRow acc k.val hk 15)
  congr 3
  · exact laneRow_eq k hk 0 acc (k0_off4_inb k) ((congrFun (k0_off4_eq k) 0).trans (show 16 * k.val = 1024 * 0 + 16 * k.val by omega))
  · exact laneRow_eq k hk 1 acc (k0_off5_inb k 0) ((congrFun (k0_off5_eq k 0) 0).trans (show 1024 * 0 + 16 * k.val + 1024 = 1024 * 1 + 16 * k.val by omega))
  · exact laneRow_eq k hk 2 acc (k0_off5_inb k 1) ((congrFun (k0_off5_eq k 1) 0).trans (show 1024 * 1 + 16 * k.val + 1024 = 1024 * 2 + 16 * k.val by omega))
  · exact laneRow_eq k hk 3 acc (k0_off5_inb k 2) ((congrFun (k0_off5_eq k 2) 0).trans (show 1024 * 2 + 16 * k.val + 1024 = 1024 * 3 + 16 * k.val by omega))
  · exact laneRow_eq k hk 4 acc (k0_off5_inb k 3) ((congrFun (k0_off5_eq k 3) 0).trans (show 1024 * 3 + 16 * k.val + 1024 = 1024 * 4 + 16 * k.val by omega))
  · exact laneRow_eq k hk 5 acc (k0_off5_inb k 4) ((congrFun (k0_off5_eq k 4) 0).trans (show 1024 * 4 + 16 * k.val + 1024 = 1024 * 5 + 16 * k.val by omega))
  · exact laneRow_eq k hk 6 acc (k0_off5_inb k 5) ((congrFun (k0_off5_eq k 5) 0).trans (show 1024 * 5 + 16 * k.val + 1024 = 1024 * 6 + 16 * k.val by omega))
  · exact laneRow_eq k hk 7 acc (k0_off5_inb k 6) ((congrFun (k0_off5_eq k 6) 0).trans (show 1024 * 6 + 16 * k.val + 1024 = 1024 * 7 + 16 * k.val by omega))
  · exact laneRow_eq k hk 8 acc (k0_off5_inb k 7) ((congrFun (k0_off5_eq k 7) 0).trans (show 1024 * 7 + 16 * k.val + 1024 = 1024 * 8 + 16 * k.val by omega))
  · exact laneRow_eq k hk 9 acc (k0_off5_inb k 8) ((congrFun (k0_off5_eq k 8) 0).trans (show 1024 * 8 + 16 * k.val + 1024 = 1024 * 9 + 16 * k.val by omega))
  · exact laneRow_eq k hk 10 acc (k0_off5_inb k 9) ((congrFun (k0_off5_eq k 9) 0).trans (show 1024 * 9 + 16 * k.val + 1024 = 1024 * 10 + 16 * k.val by omega))
  · exact laneRow_eq k hk 11 acc (k0_off5_inb k 10) ((congrFun (k0_off5_eq k 10) 0).trans (show 1024 * 10 + 16 * k.val + 1024 = 1024 * 11 + 16 * k.val by omega))
  · exact laneRow_eq k hk 12 acc (k0_off5_inb k 11) ((congrFun (k0_off5_eq k 11) 0).trans (show 1024 * 11 + 16 * k.val + 1024 = 1024 * 12 + 16 * k.val by omega))
  · exact laneRow_eq k hk 13 acc (k0_off5_inb k 12) ((congrFun (k0_off5_eq k 12) 0).trans (show 1024 * 12 + 16 * k.val + 1024 = 1024 * 13 + 16 * k.val by omega))
  · exact laneRow_eq k hk 14 acc (k0_off5_inb k 13) ((congrFun (k0_off5_eq k 13) 0).trans (show 1024 * 13 + 16 * k.val + 1024 = 1024 * 14 + 16 * k.val by omega))
  · exact laneRow_eq k hk 15 acc (k0_off5_inb k 14) ((congrFun (k0_off5_eq k 14) 0).trans (show 1024 * 14 + 16 * k.val + 1024 = 1024 * 15 + 16 * k.val by omega))

end Cert.Proof.HistKernelIdeal

end
-- ==== Proof.KernelIdeal.Body.lean ====
/-
  One tile's whole task: it copies its 32768 samples in, runs the three loops and copies its row out. The views of the
  copies are named here once, for a symbolic SparseCore and tile, and shown to be the parts of the arrays that the
  launch hands out.
-/
module

public import proofs.«01_k».proof.Proof.KernelIdeal.Tile

@[expose] public section

noncomputable section

namespace Cert.Proof.HistKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S1048576 EltTy.f32)
local notation "oV" => (Memref.whole Cert.KernelIdeal.main_v0_scv : Memref Cert.KernelIdeal.sig Kind.scVector Space.hbm Cert.KernelIdeal.S32x1024 EltTy.f32)
local notation "sX" => (Memref.whole Cert.KernelIdeal.cc0_scratch0 : Memref Cert.KernelIdeal.sig Kind.scVector Space.vmem Cert.KernelIdeal.S32768 EltTy.f32)
local notation "sA" => (Memref.whole Cert.KernelIdeal.cc0_scratch1 : Memref Cert.KernelIdeal.sig Kind.scVector Space.vmem Cert.KernelIdeal.S16384 EltTy.f32)
local notation "sP" => (Memref.whole Cert.KernelIdeal.cc0_scratch2 : Memref Cert.KernelIdeal.sig Kind.scVector Space.vmem Cert.KernelIdeal.S1024 EltTy.f32)

/-! ## The program as the launch theorem sees it -/

/-- The SparseCore side of the program. -/
abbrev K : SparseCore.Cfg τ sig (ΛP (F := F)) 1 := sc (F := F)

/-- Its launch is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The samples and the partial histograms, as locations of device `d`. -/
abbrev xLoc (d : Dev nD) : Loc nD τ sig := (SparseCore.T d).loc main_arg0
/-- Where the tiles' rows are. -/
abbrev oLoc (d : Dev nD) : Loc nD τ sig := (SparseCore.T d).loc main_v0

/-- The samples divide evenly among the tiles, -/
theorem xdiv : 32 ∣ S1048576.size 0 := ⟨32768, rfl⟩
/-- and so do the rows. -/
theorem odiv : 32 ∣ S32x1024.size 0 := ⟨1, rfl⟩
/-- Tile `w`'s samples and its row of the partial histograms. -/
abbrev xRect (w : Fin 32) : Rect S1048576 := Rect.part (s := S1048576) (a₀ := 0) xdiv w
/-- Tile `w`'s row. -/
abbrev oRect (w : Fin 32) : Rect S32x1024 := Rect.part (s := S32x1024) (a₀ := 0) odiv w
/-- The entries of tile `w`'s samples, -/
abbrev xSet (w : Fin 32) : Finset S1048576.Idx := ((xV).view.slice (xRect w)).set
/-- and of its row. -/
abbrev oSet (w : Fin 32) : Finset S32x1024.Idx := ((oV).view.slice (oRect w)).set

/-- A tile's number. -/
def wid (c : Fin 2) (s : Fin 16) : Fin 32 := ⟨2 * s.val + c.val, by omega⟩
/-- Two SparseCores, -/
theorem bound_zero : grid0.bound 0 = 2 := rfl
/-- of sixteen tiles. -/
theorem bound_one : grid0.bound 1 = 16 := rfl
/-- A grid point's number among the 32 tiles. -/
abbrev wL (L : grid0.Coords) : Fin 32 := wid (Fin.cast bound_zero (L 0)) (Fin.cast bound_one (L 1))

/-- Tile `w`'s samples. -/
def tileX (x : Vec F S1048576 .f32) (w : Fin 32) : Vec F S32768 .f32 := fun j =>
  x fun a => match a with | 0 => ⟨32768 * w.val + (j 0).val, by have : (j 0).val < 32768 := (j 0).isLt; show _ < 1048576; omega⟩

variable [FloatOps F] [Named F]

/-- The partial histograms: row `w` is tile `w`'s. -/
def rowsOf (x : Vec F S1048576 .f32) : Vec F S32x1024 .f32 := fun j =>
  tileHist (tileX x (j 0)) fun a => match a with | 0 => j 1

variable (d : Dev nD) (L : grid0.Coords)

/-! ## The slices as the body spells them -/

/-- The samples that the body names at a grid point, -/
abbrev xRectK (L : grid0.Coords) : Rect S1048576 := Rect.unit (s := S1048576) (k0_off1 L) S32768.size (k0_off1_inb L)
/-- and the row. -/
abbrev oRectK (L : grid0.Coords) : Rect S32x1024 := Rect.unit (s := S32x1024) (k0_off7 L) S1x1024.size (k0_off7_inb L)
/-- The view that the copy in reads, -/
abbrev xM (L : grid0.Coords) : Memref sig .scVector .hbm S32768 .f32 := (xV).slice (xRectK L) (fun _ => rfl)
/-- and the one that the copy out writes. -/
abbrev oM (L : grid0.Coords) : Memref sig .scVector .hbm S1024 .f32 := ((oV).slice (oRectK L) (fun _ => rfl)).squeeze S1024 squeezes_S1x1024_S1024

/-- The body's samples are its tile's part of the array, -/
theorem xRectK_eq : xRectK L = xRect (wL L) := by
  unfold xRectK xRect Rect.part Rect.block
  congr 1 <;> funext a
  · rw [k0_off1_eq]
    match a with
    | 0 => simp [Shape.partIx, Shape.partSize, wid]; show 65536 * (L 1).val + 32768 * (L 0).val = (2 * (L 1).val + (L 0).val) * 32768; omega
  · match a with
    | 0 => simp [Shape.partSize]
/-- and so is its row. -/
theorem oRectK_eq : oRectK L = oRect (wL L) := by
  unfold oRectK oRect Rect.part Rect.block
  congr 1 <;> funext a
  · rw [k0_off7_eq]
    match a with
    | 0 => simp [Shape.partIx, Shape.partSize, wid]; rfl
    | 1 => simp [Shape.partIx, Shape.partSize]
  · match a with
    | 0 => simp [Shape.partSize]
    | 1 => simp [Shape.partSize]

/-- The entries that the copy in reads, -/
theorem set_xM : (xM L).view.set = xSet (wL L) := by
  show ((xV).view.slice (xRectK L)).set = ((xV).view.slice (xRect (wL L))).set
  exact xRectK_eq L ▸ rfl
/-- and those that the copy out writes. -/
theorem set_oM : (oM L).view.set = oSet (wL L) := by
  show (((oV).view.slice (oRectK L)).reshape S1024 squeezes_S1x1024_S1024.numel_eq).set = ((oV).view.slice (oRect (wL L))).set
  rw [View.set_reshape]
  exact oRectK_eq L ▸ rfl

/-- To hold the view of the copy in is to hold the tile's samples, -/
theorem pts_xM (f : Buf (Elt F) (xLoc d)) :
    ((xM L).view.loc (V d (cV L) (jV L)) ↦[(xM L).view.set]{fullShare} f : sProp 𝕄) = xLoc d ↦[xSet (wL L)]{fullShare} f := by
  rw [set_xM]
/-- and likewise for its row. -/
theorem pts_oM (f : Buf (Elt F) (oLoc d)) :
    ((oM L).view.loc (V d (cV L) (jV L)) ↦[(oM L).view.set]{fullShare} f : sProp 𝕄) = oLoc d ↦[oSet (wL L)]{fullShare} f := by
  rw [set_oM]

/-! ## The tile's own buffers and semaphores -/

/-- The semaphore of the copy in, -/
abbrev cIn (d : Dev nD) (c : Fin τ.nSC) (i : Fin τ.nSub) : GSem nD τ sig := (V d c i, .dma cc0_scoped0.sem)
/-- and of the copy out. -/
abbrev cOut (d : Dev nD) (c : Fin τ.nSC) (i : Fin τ.nSub) : GSem nD τ sig := (V d c i, .dma cc0_scoped1.sem)

/-- A tile's own semaphores are these two and the rest. -/
theorem ownSems0_V :
    (ownSems0 (V d (cV L) (jV L)) : sProp 𝕄)
      = iprop(semVal (cIn d (cV L) (jV L)) 0 ∗ semVal (cOut d (cV L) (jV L)) 0
          ∗ bigSep (((ownCells (V d (cV L) (jV L))).erase (cIn d (cV L) (jV L))).erase (cOut d (cV L) (jV L))) fun g => semVal g 0) := by
  unfold SparseCore.Cfg.ownSems0
  rw [SparseCore.bigSep_erase' ((mem_ownCells (g := cIn d (cV L) (jV L))).mpr ⟨rfl, by
      show (SemLoc.dma cc0_scoped0.sem : SemLoc sig).isScoped .scVector = true; decide⟩),
    SparseCore.bigSep_erase' (Finset.mem_erase.mpr ⟨by simp [cIn, cOut]; decide, (mem_ownCells (g := cOut d (cV L) (jV L))).mpr ⟨rfl, by
      show (SemLoc.dma cc0_scoped1.sem : SemLoc sig).isScoped .scVector = true; decide⟩⟩)]

/-- A tile's own buffers are the samples, the lane histograms, the row and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- The tile's samples, landed in its first scratch. -/
theorem landed_eq (x : Vec F S1048576 .f32) (f : Vec F S32768 .f32) :
    ((sX).view.write (Elt F) f ((xM L).view.read (Elt F) x) Finset.univ : Vec F S32768 .f32) = tileX x (wL L) := by
  rw [show ((sX).view.write (Elt F) f ((xM L).view.read (Elt F) x) Finset.univ : Vec F S32768 .f32) = (xM L).view.read (Elt F) x from
    View.write_whole_univ _ _ _]
  funext j
  show x _ = x _
  congr 1
  funext a
  match a with
  | 0 =>
    apply Fin.ext
    have e : k0_off1 L 0 = 65536 * (L 1).val + 32768 * (L 0).val := congrFun (k0_off1_eq L) 0
    show k0_off1 L 0 + 1 * (j 0).val = 32768 * (2 * (L 1).val + (L 0).val) + (j 0).val
    omega

/-- The tile's row of the partial histograms, left by its last copy. -/
theorem left_eq (x : Vec F S1048576 .f32) (o : Vec F S32x1024 .f32) :
    ∀ i ∈ (oM L).view.set, ((oM L).view.writes (Elt F) o [⟨Rect.whole S1024, tileHist (tileX x (wL L))⟩] : Vec F S32x1024 .f32) i = rowsOf x i := by
  intro i hi
  obtain ⟨j, -, rfl⟩ := Finset.mem_map.mp hi
  have h := View.read_writes_whole (Val := Elt F) (oM L).view o (tileHist (tileX x (wL L)))
  have hj : tileHist (tileX x (wL L)) j = rowsOf x ((oM L).view.emb j) := by
    have e : (oM L).view.emb j = fun a => match a with | 0 => (wL L : Fin 32) | 1 => j 0 := by
      have e7 : k0_off7 L 0 = 2 * (L 1).val + (L 0).val := congrFun (k0_off7_eq L) 0
      have e7' : k0_off7 L 1 = 0 := congrFun (k0_off7_eq L) 1
      show (oRectK L).emb (Shape.reshapeEquiv squeezes_S1x1024_S1024.numel_eq j) = _
      have er : Shape.reshapeEquiv (s := S1x1024) squeezes_S1x1024_S1024.numel_eq j = Fin.cons ⟨0, Nat.one_pos⟩ j :=
        Shape.reshapeEquiv_cons_one (d := ![1024]) squeezes_S1x1024_S1024.numel_eq j
      rw [er]
      funext a
      match a with
      | 0 =>
        apply Fin.ext
        show k0_off7 L 0 + 1 * 0 = 2 * (L 1).val + (L 0).val
        omega
      | 1 =>
        apply Fin.ext
        show k0_off7 L 1 + 1 * (j 0).val = (j 0).val
        omega
    rw [e]
    show tileHist (tileX x (wL L)) j = tileHist (tileX x (wL L)) _
    congr 1
    funext a
    match a with
    | 0 => rfl
  rw [← hj]
  exact congrFun h j

/-- Before trip `k` of the first loop: the histograms are zero through row `k`. -/
def inv1 (k : ℕ) (_ : PUnit) : sProp 𝕄 :=
  iprop(∃ f : Vec F S16384 .f32, ⌜Zeroed k 0 f⌝ ∗ (sA).view.loc (V d (cV L) (jV L)) ↦{fullShare} f)
/-- Before trip `k` of the second: they hold the first `16 k` samples. -/
def inv2 (xs : Vec F S32768 .f32) (k : ℕ) (_ : PUnit) : sProp 𝕄 :=
  iprop(((V d (cV L) (jV L)).loc cc0_scratch0 ↦{fullShare} xs) ∗ (V d (cV L) (jV L)).loc cc0_scratch1 ↦{fullShare} hists xs k)
/-- Before trip `k` of the third: the first `16 k` totals are in place. -/
def inv3 (acc : Vec F S16384 .f32) (k : ℕ) (_ : PUnit) : sProp 𝕄 :=
  iprop(((sA).view.loc (V d (cV L) (jV L)) ↦{fullShare} acc) ∗ ∃ p : Vec F S1024 .f32, ⌜Summed acc k p⌝ ∗ (sP).view.loc (V d (cV L) (jV L)) ↦{fullShare} p)

set_option maxHeartbeats 4000000 in
/-- The tile's task: holding its samples and its row of the output, it runs to the end, its samples as they were,
its row that of `rowsOf`, and its semaphores at zero. -/
theorem tile_body (hF : (K (F := F)).Facts) (x : Vec F S1048576 .f32) (o : Vec F S32x1024 .f32)
    (O : CellTallies nD τ sig (HIx 1)) (W : Waits sig (HIx 1)) (hO : ∀ g, O g none = 0) :
    iprop(levAts (K (F := F)).L (K (F := F)).lev ∗ emp
        ∗ ((xLoc d ↦[xSet (wL L)]{fullShare} x) ∗ oLoc d ↦[oSet (wL L)]{fullShare} o)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__sc_body L xV (Memref.isWhole_whole _) oV (Memref.isWhole_whole _) sX (Memref.isWhole_whole _) sA (Memref.isWhole_whole _)
            sP (Memref.isWhole_whole _) cc0_scoped0 cc0_scoped1)
          fun _ => iprop(((xLoc d ↦[xSet (wL L)]{fullShare} x) ∗ oLoc d ↦[oSet (wL L)]{fullShare} rowsOf x)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [cc0__sc_body_eq_skeleton]
  unfold cc0__sc_body_skel
  rw [k0_part8_eq_skeleton]
  unfold k0_part8_skel
  simp only [bind_assoc, pure_bind]
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fx, Hsx⟩, ⟨%fa, Hsa⟩, ⟨%fp, Hsp⟩, Hbufs⟩, ⟨HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx := (Entails.of_eq (pts_xM (F := F) d L _).symm) $$ Hx
  ihave Ho := (Entails.of_eq (pts_oM (F := F) d L _).symm) $$ Ho
  ihave Hsx := (show (_ : sProp 𝕄) ⊢ ((sX).view.loc (V d (cV L) (jV L)) ↦{fullShare} fx) from .rfl) $$ Hsx
  ihave Hsp := (show (_ : sProp 𝕄) ⊢ ((sP).view.loc (V d (cV L) (jV L)) ↦{fullShare} fp) from .rfl) $$ Hsp
  ihave Hsa := (show (_ : sProp 𝕄) ⊢ ((sA).view.loc (V d (cV L) (jV L)) ↦{fullShare} fa) from .rfl) $$ Hsa
  sl_exec (disch := exact View.amount_pos _ _ (show 0 < S32768.numel by decide))
  ihave Hsx := (Entails.of_eq (show ((sX).view.loc (V d (cV L) (jV L)) ↦{fullShare} View.write (Elt F) (sX).view fx (tile_body.sl.dma0 L x) Finset.univ : sProp 𝕄)
      = ((V d (cV L) (jV L)).loc cc0_scratch0 ↦{fullShare} tileX x (wL L)) from
    congrArg (fun f : Vec F S32768 .f32 => ((V d (cV L) (jV L)).loc cc0_scratch0 ↦{fullShare} f : sProp 𝕄)) (landed_eq L x fx))) $$ Hsx
  sl_for (inv1 (F := F) d L) $$ [Hsa]
  case region =>
    intro k _
    unfold inv1
    iintro ⟨%f, %hf, Ha⟩
    iapply (zero_trip d L k f hf) $$ Ha
  · unfold inv1
    iexists fa
    isplitr
    · ipureintro; exact fun i hi => absurd hi (by simp)
    · iexact Hsa
  iintro %_ HI
  unfold inv1
  icases HI with ⟨%f, %hf, Hsa⟩
  have ef : f = hists (tileX x (wL L)) 0 := by
    funext j
    exact hf j (.inl (show (j 0).val % 1024 < 16 * 64 by omega))
  subst ef
  sl_for (inv2 (F := F) d L (tileX x (wL L))) $$ [Hsx Hsa]
  case region =>
    intro k _
    have hk : k.val < 2048 := lt_of_lt_of_le k.isLt k0_t2_abs.2.1
    unfold inv2
    rw [show hists (tileX x (wL L)) (k.val + 1) = step (vec16 (tileX x (wL L)) k.val hk) (hists (tileX x (wL L)) k.val) from dif_pos hk]
    exact add_trip d L k hk (tileX x (wL L)) (hists (tileX x (wL L)) k.val)
  · unfold inv2
    isplitl [Hsx]; · iexact Hsx
    iexact Hsa
  iintro %_ HI
  unfold inv2
  icases HI with ⟨Hsx, Hsa⟩
  sl_for (inv3 (F := F) d L (hists (tileX x (wL L)) 2048)) $$ [Hsa Hsp]
  case region =>
    intro k _
    unfold inv3
    iintro ⟨Ha, %p, %hp, Hp⟩
    iapply (sum_trip d L k _ p hp) $$ [Ha Hp]
    isplitl [Ha]; · iexact Ha
    iexact Hp
  · unfold inv3
    isplitl [Hsa]; · iexact Hsa
    iexists fp
    isplitr
    · ipureintro; exact fun i hi => absurd hi (by simp)
    · iexact Hsp
  iintro %_ HI
  unfold inv3
  icases HI with ⟨Hsa, %p, %hp, Hsp⟩
  have ep : p = tileHist (tileX x (wL L)) := by
    funext j
    exact hp j (show (j 0).val < 16 * 64 from (j 0).isLt)
  subst ep
  sl_exec (disch := exact View.amount_pos _ _ (show 0 < S1024.numel by decide))
  sl_step
  ihave Ho := (Entails.of_eq (show ((oM L).view.loc (V d (cV L) (jV L)) ↦[(oM L).view.set]{fullShare}
        (oM L).view.writes (Elt F) o [⟨Rect.whole S1024, tile_body.sl.dma0_1 L x⟩] : sProp 𝕄)
      = ((oM L).view.loc (V d (cV L) (jV L)) ↦[(oM L).view.set]{fullShare} rowsOf x) from
    pointsTo_congr (left_eq L x o))) $$ Ho
  ihave Hx := (show (_ : sProp 𝕄) ⊢ ((xM L).view.loc (V d (cV L) (jV L)) ↦[(xM L).view.set]{fullShare} x) from .rfl) $$ Hx
  ihave Hx := (Entails.of_eq (pts_xM (F := F) d L _)) $$ Hx
  ihave Ho := (Entails.of_eq (pts_oM (F := F) d L _)) $$ Ho
  isplitl [Hx Ho]
  · isplitl [Hx]; · iexact Hx
    iexact Ho
  isplitl [Hsx Hsa Hsp Hbufs]
  · isplitl [Hsx]; · iexists _; iexact Hsx
    isplitl [Hsa]; · iexists _; iexact Hsa
    isplitl [Hsp]; · iexists _; iexact Hsp
    iexact Hbufs
  isplitl [HsemI HsemO Hsems]
  · isplitl [HsemI]; · iexact HsemI
    isplitl [HsemO]; · iexact HsemO
    iexact Hsems
  iexists _; isplitr; swap
  · iexact HO
  · ipureintro; intro p _
    rcases p.2 with _ | q
    · exact .inr (.inl rfl)
    · exact .inr (.inr (congrArg some (Subsingleton.elim q 0)))

end Cert.Proof.HistKernelIdeal

end
-- ==== Proof.KernelIdeal.Reduce.lean ====
module

public import proofs.«01_k».proof.Proof.KernelIdeal.Tile
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value

@[expose] public section

noncomputable section

namespace Cert.Proof.HistKernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 1) (Elt F) ℕ UU ℕ

/-- The reduction's body: it leaves the scaled sum of the rows in the result's buffer. -/
theorem reduce_run (c : Dev nD) (f : Vec F S32x1024 .f32) (g : Vec F S1x1024 .f32) (E : Set ℕ) (Q : PUnit → sProp 𝕄) :
    iprop(((stage1_0 0).view.loc (c : Thread nD τ) ↦{fullShare} f) ∗ ((stage1_1 0).view.loc (c : Thread nD τ) ↦{fullShare} g)
        ∗ (iprop(((stage1_0 0).view.loc (c : Thread nD τ) ↦{fullShare} f) ∗ ((stage1_1 0).view.loc (c : Thread nD τ) ↦{fullShare} k1_pay1 f)) -∗ Q ⟨⟩))
      ⊢ wp frame (wpE (defs₀ (F := F)) 𝒱₀ c none) E (cc1__tc_reduce (stage1_0 0) (hstage1_0 0) (stage1_1 0) (hstage1_1 0)) Q := by
  iintro ⟨Hf, Hg, Hk⟩
  sl_exec!
  sl_step
  iapply Hk
  isplitl [Hf]; · iexact Hf
  have z2 : (![0, 0] : Fin 2 → ℕ) = fun _ => 0 := by funext a; fin_cases a <;> rfl
  have e : (stage1_1 0).view.writes (Elt F) (stage1_1 0).view.junk (reduce_run.sl.Hg_1 f) = k1_pay1 f :=
    (Memref.write_access_unit_zero_univ (Elt F) cc1_stg1_0 z2 inb_S1x1024_S1x1024_0_0 _ _).trans
      (congrArg k1_pay1 (Memref.readAt_unit_zero (Elt F) cc1_stg0_0 z2 inb_S32x1024_S32x1024_0_0 f))
  ihave Hg := (Entails.of_eq (congrArg (fun w => ((stage1_1 0).view.loc (c : Thread nD τ) ↦{fullShare} w : sProp 𝕄)) e)) $$ Hg
  iexact Hg

/-! ## The pipeline's proof data -/

-- the arrays' contents when the pallas_call is entered
variable (V : (c : Dev nD) → (b : Ref sig .tc) → Buf (Elt F) ((c : Thread nD τ).loc b))

/-- The pallas_call reads the partial histograms at `V` and leaves their scaled sum; it owes nothing. -/
def rdat (c : Dev nD) : Dat τ (Elt F) (HIx 1) ℕ UU ℕ cfg1 c where
  A w := V c (Pipeline.arrRef spec1 w)
  after w _ := match w with
    | ⟨0, _⟩ => (V c main_v0 : Vec F S32x1024 .f32)
    | ⟨1, _⟩ => k1_pay1 (V c main_v0 : Vec F S32x1024 .f32)
  Φ _ := Pipeline.scopedRest spec1 c
  q _ := fullShare
  owed _ := 0

/-- No table is prefetched, so nothing is asked of one. -/
abbrev adm₀ : (p : Fin 1) → (pcfgs (F := F) p).Adm := fun p => (cfgs p).toPCfg_adm

/-- The one pipeline's data. -/
def rdats : (p : Fin 1) → (c : Dev nD) → Dat τ (Elt F) (HIx 1) ℕ UU ℕ (Pipeline.pin (pcfgs (F := F)) adm₀ p) c
  | ⟨0, _⟩ => fun c => rdat V c

omit [FloatOps F] [Named F] in
/-- The one block of the input's window is the whole array, -/
theorem blk_rows (c : Dev nD) (f : Buf (Elt F) ((c : Thread nD τ).loc main_v0)) : (win1_0.blk t1_0).view.read (Elt F) f = f :=
  Memref.read_access_unit_zero (Elt F) main_v0
    (show (fun a => (win1_0.index t1_0) a * main_v0.ty.shape.size a) = fun _ => 0 from funext fun a => by fin_cases a <;> decide)
    (fun a => by fin_cases a <;> decide) f
omit [FloatOps F] [Named F] in
/-- and so is the one block of the result's. -/
theorem blk_bins (c : Dev nD) (f : Buf (Elt F) ((c : Thread nD τ).loc main_v1)) : (win1_1.blk t1_0).view.read (Elt F) f = f :=
  Memref.read_access_unit_zero (Elt F) main_v1
    (show (fun a => (win1_1.index t1_0) a * main_v1.ty.shape.size a) = fun _ => 0 from funext fun a => by fin_cases a <;> decide)
    (fun a => by fin_cases a <;> decide) f

/-- When the body runs, the input's buffer holds the partial histograms. -/
theorem before_rows (c : Dev nD) (d : (cfg1.win 0).block.Idx → Elt F (cfg1.win 0).elt) : (rdat V c).before 0 t1_0 d = (V c main_v0 : Vec F S32x1024 .f32) := by
  unfold Dat.before; rw [if_pos (by decide)]
  exact blk_rows c (V c main_v0)

/-- The body does what the pipeline's data says of it. -/
theorem reduce_obligation (c : Dev nD) : BodyObligation (rdat V c) (defs₀ (F := F)) 𝒱₀ (none : HIx 1) Set.univ := fun t => by
  obtain rfl := fin_N1 t
  rw [bigSep_W1, bigSep_W1]
  simp only [owns_whole_eq]
  rw [show (rdat V c).Φ t1_0.succ = (rdat V c).Φ t1_0.castSucc from rfl, show (rdat V c).owesAt none t1_0.succ = (rdat V c).owesAt none t1_0.castSucc from rfl]
  iintro ⟨HΦ, HO, ⟨%d0, %f0, %hf0, H0⟩, ⟨%d1, %f1, -, H1⟩⟩
  rw [before_rows] at hf0
  subst hf0
  iapply (reduce_run c (V c main_v0) f1 Set.univ _)
  isplitl [H0]; · iexact H0
  isplitl [H1]; · iexact H1
  iintro ⟨H0, H1⟩
  isplitl [HΦ]; · iexact HΦ
  isplitl [HO]; · iexact HO
  isplitl [H0]
  · iexists _; isplitr; swap; (· iexact H0); ipureintro; dsimp only [rdat]
  iexists _; isplitr; swap; (· iexact H1); ipureintro; dsimp only [rdat]

/-- What the one write-back carries. -/
theorem flushed_bins (c : Dev nD) : (rdat V c).flushed 1 t1_0 = (k1_pay1 (V c main_v0 : Vec F S32x1024 .f32) : Vec F S1x1024 .f32) := by
  show (cfg1.win 1).cut _ ((rdat V c).after 1 t1_0) = _
  dsimp only [rdat]
  exact funext fun _ => rfl

/-- The result's array after the pallas_call: the scaled sum of the rows. -/
theorem reduce_final (c : Dev nD) : (rdat V c).arrAt 1 cfg1.N = (k1_pay1 (V c main_v0 : Vec F S32x1024 .f32) : Vec F S1x1024 .f32) := by
  have hw : (win1_1.blk t1_0).view.read (Elt F) ((rdat V c).arrAt 1 cfg1.N) = (rdat V c).flushed 1 t1_0 := by
    rw [show cfg1.N = t1_0.val + 1 from rfl, (rdat V c).arrAt_succ (1 : Fin 2) t1_0, if_pos (flush1_1 _)]
    exact View.read_write_univ _ _
  rw [flushed_bins] at hw
  exact (blk_bins c _).symm.trans hw

-- what the arrays hold when the pallas_call is left
variable (Vp : (c : Dev nD) → (b : Ref sig .tc) → Buf (Elt F) ((c : Thread nD τ).loc b))

-- `iapply` of a lemma stated over the pinned configuration needs plain definitions unfolded in a metavariable's type
set_option backward.isDefEq.respectTransparency.types false in
/-- The pallas_call as one step of the TensorCore: entered with every unscoped buffer at `V`, it leaves them at `Vp`,
    which has the scaled sum in the result's array and agrees with `V` elsewhere. -/
def reduceSeg (hout : ∀ c, Vp c main_v1 = (k1_pay1 (V c main_v0 : Vec F S32x1024 .f32) : Vec F S1x1024 .f32))
    (hne : ∀ c (b : Ref sig .tc), b ≠ main_v1 → Vp c b = V c b) :
    Pipeline.RegionSeg (pcfgs (F := F)) adm₀ (rdats V) (none : HIx 1) defs₀ 𝒱₀ (sc (F := F)).L (sc (F := F)).lev 0 where
  win := launch1.win.to₀
  block_pos := launch1.block_pos
  stage_whole := launch1.stage_whole
  K := PEmpty
  osem k := k.elim
  ho := Pipeline.OwnSemFacts.none _
  hbody c := (reduce_obligation V c).loose
  hwaits := Pipeline.hwaits_of_owed_zero _ _ _ _ _ _ 0 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm₀ (rdats V) launch1.win launch1.arr_whole c
      ((rdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (rdats V 0 c).Φ 0 = Pipeline.scopedRest spec1 c from rfl]
    iintro ⟨-, -, Hr⟩; iexact Hr
  hout c := by
    rw [Pipeline.ownSems0_none, show (rdats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm₀ (Ix := HIx 1) (Name := ℕ) (U := UU) (Lvl := ℕ) launch1.win launch1.arr_whole c
      (rdats V) ((rdats V 0 c).share_full fun _ => rfl) (V c) (Vp c) ((rdats V 0 c).arrAt · cfg1.N)
      (fun w => by
        fin_cases w
        · exact ((rdats V 0 c).arrAt_in 0 rfl _).trans (hne c main_v0 (by decide)).symm
        · exact (reduce_final V c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.HistKernelIdeal

end
-- ==== Proof.KernelIdeal.Launch.lean ====
/-
  The whole program: the launch of the 32 tiles, the TensorCore's sum and the reshape, and what memory and the
  counters hold at the end (`run_main`).
-/
module

public import proofs.«01_k».proof.Defs
public import proofs.«01_k».proof.Proof.KernelIdeal.Body
public import proofs.«01_k».proof.Proof.KernelIdeal.Reduce
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.HistKernelIdeal

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S1048576 EltTy.f32)
local notation "oV" => (Memref.whole Cert.KernelIdeal.main_v0_scv : Memref Cert.KernelIdeal.sig Kind.scVector Space.hbm Cert.KernelIdeal.S32x1024 EltTy.f32)
local notation "sX" => (Memref.whole Cert.KernelIdeal.cc0_scratch0 : Memref Cert.KernelIdeal.sig Kind.scVector Space.vmem Cert.KernelIdeal.S32768 EltTy.f32)
local notation "sA" => (Memref.whole Cert.KernelIdeal.cc0_scratch1 : Memref Cert.KernelIdeal.sig Kind.scVector Space.vmem Cert.KernelIdeal.S16384 EltTy.f32)
local notation "sP" => (Memref.whole Cert.KernelIdeal.cc0_scratch2 : Memref Cert.KernelIdeal.sig Kind.scVector Space.vmem Cert.KernelIdeal.S1024 EltTy.f32)

/-- The launch takes two SparseCores, -/
theorem nCore_zero : (K (F := F)).nCore 0 = 2 := rfl
/-- of sixteen tiles each. -/
theorem nSub_zero : (K (F := F)).nSub 0 = 16 := rfl
/-- The lifted variants. -/
abbrev 𝒱 : Variants := 𝒱₀.lift
/-- The initial one. -/
abbrev v₀ : 𝒱.V := Sum.inl none

/-- The handshakes' rounds, and the pipeline's, inside the proof's resources. -/
abbrev EH : Emb UH (MT nD τ sig (HIx 1) (Elt F) ℕ UU ℕ) := embL
/-- Where the pipeline's ghost state sits. -/
abbrev EP : Emb (URounds (GSem nD τ sig) Unit) (MT nD τ sig (HIx 1) (Elt F) ℕ UU ℕ) :=
  (Emb.inl : Emb (URounds (GSem nD τ sig) Unit) (URounds (GSem nD τ sig) Unit × Counters)).trans embR

variable [FloatOps F] [Named F]

/-- The procedures of the whole program. -/
abbrev D : Defs nD τ sig (Elt F) (ΛP (F := F)) := Pipeline.defs pcfgs defs₀

variable (m : (ℓ : Loc nD τ sig) → Buf (Elt F) ℓ) (ρ : Dev nD → PrngReg)

/-! ## What the call hands out and takes back -/

/-- The tile at subcore `i` of SparseCore `c`. -/
abbrev widK (c : Fin ((K (F := F)).nCore 0)) (i : Fin ((K (F := F)).nSub 0)) : Fin 32 := wid (Fin.cast nCore_zero c) (Fin.cast nSub_zero i)

/-- A tile's share of the two arrays: its samples, and its row at contents `o`. -/
abbrev piece (d : Dev nD) (o : Buf (Elt F) (oLoc d)) (w : Fin 32) : sProp 𝕄 :=
  iprop((xLoc d ↦[xSet w]{fullShare} m (xLoc d)) ∗ oLoc d ↦[oSet w]{fullShare} o)

/-- The partial histograms of the samples a memory holds. -/
abbrev rowsAt (d : Dev nD) : Buf (Elt F) (oLoc d) := (rowsOf (m (xLoc d) : Vec F S1048576 .f32) : Vec F S32x1024 .f32)

/-- The call takes every tile's samples and row and brings them back, the rows at the tiles' histograms. -/
def P : (K (F := F)).Pay (nD := nD) (Val := Elt F) (Name := ℕ) (U := UU) where
  st := fun q d c => match q with | 0 => bigSep Finset.univ fun i => piece m d (m (oLoc d)) (widK c i)
  dn := fun q d c => match q with | 0 => bigSep Finset.univ fun i => piece m d (rowsAt m d) (widK c i)
  go := fun q d c i => match q with | 0 => piece m d (m (oLoc d)) (widK c i)
  td := fun q d c i => match q with | 0 => piece m d (rowsAt m d) (widK c i)
  x := fun _ _ => iprop(emp)

/-- What the handshakes carry can be stored. -/
instance P_storable : (P (F := F) m).IsStorable where
  st q d c := match q with
    | 0 => (inferInstance : BI.Storable (upEmb : UEmb _ 𝕄) (bigSep Finset.univ fun i => piece m d (m (oLoc d)) (widK c i)))
  dn q d c := match q with
    | 0 => (inferInstance : BI.Storable (upEmb : UEmb _ 𝕄) (bigSep Finset.univ fun i => piece m d (rowsAt m d) (widK c i)))
  go q d c i := match q with
    | 0 => (inferInstance : BI.Storable (upEmb : UEmb _ 𝕄) (piece m d (m (oLoc d)) (widK c i)))
  td q d c i := match q with
    | 0 => (inferInstance : BI.Storable (upEmb : UEmb _ 𝕄) (piece m d (rowsAt m d) (widK c i)))

/-! ## The task -/

/-- The grid's point of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs when it is handed the call. -/
theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _)
          sX (Memref.isWhole_whole _) sA (Memref.isWhole_whole _) sP (Memref.isWhole_whole _) cc0_scoped0 cc0_scoped1) ⟨⟩ c s := rfl

/-- Every tile does what the call asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (m (xLoc d)) (m (oLoc d)) O W hO

/-- A SparseCore's part of the call is its tiles' parts. -/
theorem vecSplit : (K (F := F)).VecSplit' (P m) 0 := by
  intro d c
  show (bigSep Finset.univ fun i => piece m d (m (oLoc d)) (widK c i)) ⊢ |={Set.univ}=> iprop(
      (bigSep Finset.univ fun i => piece m d (m (oLoc d)) (widK c i))
      ∗ ((bigSep Finset.univ fun i => piece m d (rowsAt m d) (widK c i)) -∗ bigSep Finset.univ fun i => piece m d (rowsAt m d) (widK c i)))
  iintro H; imodintro
  isplitl [H]; · iexact H
  iintro H; iexact H

/-! ## The arrays split into the tiles' shares and join again -/

/-- Every tile's number is that of one subcore of one SparseCore. -/
def widEquiv : Fin ((K (F := F)).nCore 0) × Fin ((K (F := F)).nSub 0) ≃ Fin 32 where
  toFun ci := widK ci.1 ci.2
  invFun w := (⟨w.val % 2, by rw [nCore_zero]; omega⟩, ⟨w.val / 2, by rw [nSub_zero]; omega⟩)
  left_inv ci := by
    obtain ⟨⟨c, hc⟩, ⟨i, hi⟩⟩ := ci
    rw [nCore_zero] at hc
    refine Prod.ext (Fin.ext ?_) (Fin.ext ?_)
    · show (2 * i + c) % 2 = c; omega
    · show (2 * i + c) / 2 = i; omega
  right_inv w := by
    refine Fin.ext ?_
    show 2 * (w.val / 2) + w.val % 2 = w.val; omega

/-- A product over the tiles is one over SparseCores and their tiles. -/
theorem bigSep_tiles (Φ : Fin 32 → sProp 𝕄) :
    (bigSep Finset.univ fun c => bigSep Finset.univ fun i => Φ (widK (F := F) c i)) = bigSep Finset.univ Φ := by
  rw [bigSep_univ_equiv (widEquiv (F := F)) Φ, bigSep_univ_prod]; rfl

/-- The entries of a part of the samples, -/
theorem xSet_eq (w : Fin 32) : xSet w = (xRect w).set := by
  show ((View.whole (main_arg0_scv : Ref sig .scVector)).slice (xRect w)).set = _
  rw [View.set_slice]; exact Finset.map_refl
/-- and of a row. -/
theorem oSet_eq (w : Fin 32) : oSet w = (oRect w).set := by
  show ((View.whole (main_v0_scv : Ref sig .scVector)).slice (oRect w)).set = _
  rw [View.set_slice]; exact Finset.map_refl
/-- The parts of the samples are disjoint, -/
theorem xSet_disjoint : ∀ i ∈ (Finset.univ : Finset (Fin 32)), ∀ j ∈ (Finset.univ : Finset (Fin 32)), i ≠ j → Disjoint (xSet i) (xSet j) :=
  fun i _ j _ h => by rw [xSet_eq, xSet_eq]; exact Rect.part_disjoint xdiv h
/-- and so are the rows; -/
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
/-- the parts make up all samples, -/
theorem xSet_cover : (Finset.univ : Finset (Fin 32)).biUnion xSet = Finset.univ :=
  (Finset.biUnion_congr rfl fun i _ => xSet_eq i).trans (Rect.biUnion_part xdiv)
/-- and the rows the whole output. -/
theorem oSet_cover : (Finset.univ : Finset (Fin 32)).biUnion oSet = Finset.univ :=
  (Finset.biUnion_congr rfl fun i _ => oSet_eq i).trans (Rect.biUnion_part odiv)

/-- The samples split among the tiles, -/
theorem xPts_split (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet xSet_disjoint, xSet_cover]; try rfl
/-- and the output too. -/
theorem oPts_split (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl

/-- The two arrays whole are the tiles' shares together. -/
theorem pieces_eq (d : Dev nD) (o : Buf (Elt F) (oLoc d)) :
    (bigSep Finset.univ fun c => bigSep Finset.univ fun i => piece m d o (widK (F := F) c i))
      = iprop((xLoc d ↦{fullShare} m (xLoc d)) ∗ oLoc d ↦{fullShare} o) := by
  rw [bigSep_tiles (F := F) (fun w => piece m d o w), bigSep_sep', ← xPts_split, ← oPts_split]

/-- What the launch hands to the tiles, -/
theorem st0_eq (d : Dev nD) :
    (bigSep Finset.univ fun c : Fin ((K (F := F)).nCore 0) => (P m).st 0 d c) = iprop((xLoc d ↦{fullShare} m (xLoc d)) ∗ oLoc d ↦{fullShare} m (oLoc d)) :=
  pieces_eq m d (m (oLoc d))
/-- and what they hand back. -/
theorem dn0_eq (d : Dev nD) :
    (bigSep Finset.univ fun c : Fin ((K (F := F)).nCore 0) => (P m).dn 0 d c) = iprop((xLoc d ↦{fullShare} m (xLoc d)) ∗ oLoc d ↦{fullShare} rowsAt m d) :=
  pieces_eq m d (rowsAt m d)

/-! ## What the launch starts from -/

/-- Different pipelines use different cells. -/
theorem pin_inj : Function.Injective (Pipeline.cellOf (nD := nD) (τ := τ) (Pipeline.pin (pcfgs (F := F)) adm₀)) := cellOf_inj

/-- The pipeline's share of what the launch starts from, on one device. -/
abbrev G (d : Dev nD) : sProp 𝕄 :=
  iprop(Pipeline.cellsGhost (Pipeline.pin (pcfgs (F := F)) adm₀) EP 0 d ∗ Pipeline.toksInit (Pipeline.pin (pcfgs (F := F)) adm₀) EP 0 d)

/-- The initial ghost state, -/
def u₀ : UU := (initOf (K (F := F)).hsCells (K (F := F)).hsToks,
  (initOf (Pipeline.cells (Pipeline.pin (pcfgs (F := F)) adm₀) pin_inj) (Pipeline.launchToks (Pipeline.pin (pcfgs (F := F)) adm₀) pin_inj), 1))

/-- and what it grants. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb (embR : Emb (URounds (GSem nD τ sig) Unit × Counters) 𝕄) _ _) $$ HR
  icases H with ⟨HP, -⟩
  ihave H := (Pipeline.fund_ghost (Pipeline.pin (pcfgs (F := F)) adm₀) EP pin_inj) $$ HP
  imod H with ⟨Hc, Ht⟩
  imodintro
  isplitl [HH]; · iexact HH
  isplitl [Hc Ht]
  · rw [bigSep_sep']
    isplitl [Hc]
    · iapply (show (bigSep Finset.univ fun d : Dev nD => bigSep Finset.univ fun p => Pipeline.cellsGhost (Pipeline.pin (pcfgs (F := F)) adm₀) EP p d)
          ⊢ (bigSep Finset.univ fun d : Dev nD => Pipeline.cellsGhost (Pipeline.pin (pcfgs (F := F)) adm₀) EP 0 d : sProp 𝕄) from
        Entails.of_eq (bigSep_congr fun _ _ => bigSep_univ_of_subsingleton (0 : Fin 1))); iexact Hc
    · iapply (show (bigSep Finset.univ fun d : Dev nD => bigSep Finset.univ fun p => Pipeline.toksInit (Pipeline.pin (pcfgs (F := F)) adm₀) EP p d)
          ⊢ (bigSep Finset.univ fun d : Dev nD => Pipeline.toksInit (Pipeline.pin (pcfgs (F := F)) adm₀) EP 0 d : sProp 𝕄) from
        Entails.of_eq (bigSep_congr fun _ _ => bigSep_univ_of_subsingleton (0 : Fin 1))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep (Finset.univ : Finset (Thread nD τ)) fun _ => iprop(emp)) = (iprop(emp) : sProp 𝕄) from bigSep_emp_const _]
  iempintro

/-! ## The arrays along @main -/

/-- The samples, -/
abbrev x' : DevRef τ sig := Proc.devRef .tc (main_arg0 : Ref sig .tc)
/-- the tiles' rows, -/
abbrev o' : DevRef τ sig := Proc.devRef .tc (main_v0 : Ref sig .tc)
/-- their sum, -/
abbrev r' : DevRef τ sig := Proc.devRef .tc (main_v1 : Ref sig .tc)
/-- and the result, as the host names them. -/
abbrev z' : DevRef τ sig := Proc.devRef .tc (main_v2 : Ref sig .tc)
/-- Where the sum is, -/
abbrev rLoc (d : Dev nD) : Loc nD τ sig := (SparseCore.T d).loc main_v1
/-- and the result. -/
abbrev zLoc (d : Dev nD) : Loc nD τ sig := (SparseCore.T d).loc main_v2
/-- The final reshape. -/
abbrev opFlat : HloOp τ sig (Elt F) := StableHlo.reshape main_v1 main_v2 (rfl : (.f32 : EltTy) = .f32) shapeCasts_S1x1024_S1024

/-- The launch's contents; after the SparseCore call; after the reduction. -/
def V0 (d : Dev nD) : Valuation τ sig (Elt F) := fun b => m (d, b)
/-- The arrays after the tiles, -/
def V1 (d : Dev nD) : Valuation τ sig (Elt F) := Function.update (V0 m d) o' (rowsAt m d)
/-- and after the TensorCore's sum. -/
def V2 (d : Dev nD) : Valuation τ sig (Elt F) := Function.update (V1 m d) r' (k1_pay1 (rowsAt m d : Vec F S32x1024 .f32) : Vec F S1x1024 .f32)

/-- After the tiles: the samples, -/
theorem V1_x (d : Dev nD) : V1 m d x' = m (xLoc d) := Function.update_of_ne (show x' ≠ o' by decide) _ _
/-- the rows, -/
theorem V1_o (d : Dev nD) : V1 m d o' = rowsAt m d := Function.update_self _ _ _
/-- the sum, -/
theorem V1_r (d : Dev nD) : V1 m d r' = m (rLoc d) := Function.update_of_ne (show r' ≠ o' by decide) _ _
/-- the result. -/
theorem V1_z (d : Dev nD) : V1 m d z' = m (zLoc d) := Function.update_of_ne (show z' ≠ o' by decide) _ _
/-- After the sum: the sum, -/
theorem V2_r (d : Dev nD) : V2 m d r' = (k1_pay1 (rowsAt m d : Vec F S32x1024 .f32) : Vec F S1x1024 .f32) := Function.update_self _ _ _
/-- the samples. -/
theorem V2_x (d : Dev nD) : V2 m d x' = m (xLoc d) := (Function.update_of_ne (show x' ≠ r' by decide) _ _).trans (V1_x m d)

/-- The four arrays. -/
abbrev S4 : Finset (DevRef τ sig) := {x', o', r', z'}

/-- To hold the four arrays is to hold each. -/
theorem held_S4 (d : Dev nD) (W : Valuation τ sig (Elt F)) :
    (held (T d) S4 W : sProp 𝕄) = iprop((xLoc d ↦{fullShare} W x') ∗ (oLoc d ↦{fullShare} W o') ∗ (rLoc d ↦{fullShare} W r') ∗ zLoc d ↦{fullShare} W z') := by
  unfold held S4
  rw [SparseCore.bigSep_insert' (by decide), SparseCore.bigSep_insert' (by decide), SparseCore.bigSep_insert' (by decide), bigSep_singleton]

/-- The host's buffers are the four arrays. -/
theorem unscopedBufs_eq (d : Dev nD) (W : Valuation τ sig (Elt F)) :
    (unscopedBufs d (fun b => W (Proc.devRef .tc b)) : sProp 𝕄) = held (T d) S4 W := by
  rw [held_S4]; unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The reshape touches only these. -/
theorem hFlat : (opFlat (F := F)).bufs ⊆ S4 := show ({r', z'} : Finset (DevRef τ sig)) ⊆ S4 by decide

/-- The histogram the program returns: the scaled sum of the tiles' rows, as a vector. -/
def binsOf (x : Vec F S1048576 .f32) : Vec F S1024 .f32 := fun j => (k1_pay1 (rowsOf x) : Vec F S1x1024 .f32) (fun a => match a with | 0 => (0 : Fin 1) | 1 => j 0)

/-- Where the reshape reads bin `j`. -/
theorem flat_idx (j : S1024.Idx) :
    Shape.reshapeEquiv (s := S1x1024) (s' := S1024) shapeCasts_S1x1024_S1024.symm j = fun a => match a with | 0 => (0 : Fin 1) | 1 => j 0 := by
  refine (Shape.reshapeEquiv_cons_one (d := ![1024]) shapeCasts_S1x1024_S1024.symm j).trans (funext fun a => ?_)
  match a with
  | 0 => rfl
  | 1 => rfl

/-- After the reshape the result is `binsOf` of the samples, -/
theorem flat_z (d : Dev nD) : (opFlat (F := F)).result (V2 m d) z' = (binsOf (m (xLoc d) : Vec F S1048576 .f32) : Vec F S1024 .f32) := by
  rw [StableHlo.reshape_result, V2_r]
  funext j
  show (k1_pay1 (rowsOf (m (xLoc d))) : Vec F S1x1024 .f32) _ = (k1_pay1 (rowsOf (m (xLoc d))) : Vec F S1x1024 .f32) _
  exact congrArg (k1_pay1 (rowsOf (m (xLoc d))) : Vec F S1x1024 .f32) (flat_idx j)
/-- and the samples are as they were. -/
theorem flat_x (d : Dev nD) : (opFlat (F := F)).result (V2 m d) x' = m (xLoc d) :=
  ((opFlat (F := F)).result_of_not_mem (V2 m d) (b := x') (show x' ∉ ({z'} : Finset (DevRef τ sig)) by decide)).trans (V2_x m d)

/-! ## The reduction on the TensorCore, inside @main -/

-- `RegionSeg.wp` is stated over the pinned configuration: plain definitions are unfolded in a metavariable's type
set_option maxHeartbeats 1000000 in
set_option backward.isDefEq.respectTransparency.types false in
/-- The reduction's call: from the arrays as the SparseCores left them to the arrays with the scaled sum. -/
theorem wp_reduce (d : Dev nD) (Φ : PUnit → sProp 𝕄) :
    iprop((iprop(boundary (T d) ∗ held (T d) S4 (V2 m d) ∗ ∃ W, owes (T d) (0 : CellTallies nD τ sig (HIx 1)) W) -∗ Φ ⟨⟩)
        ∗ boundary (T d) ∗ (held (T d) S4 (V1 m d) ∗ ∃ W, owes (T d) (0 : CellTallies nD τ sig (HIx 1)) W)
        ∗ levAts (K (F := F)).L (K (F := F)).lev ∗ G (F := F) d)
      ⊢ wp frame (wpE ((K (F := F)).defs (D (F := F))) 𝒱 (T d) none) Set.univ
          (Prog.lift (.customCall (SparseCore.inner (Pipeline.entry 0)) ())) Φ := by
  have hr := Pipeline.RegionSeg.wp (pcfgs (F := F)) adm₀ (rdats fun c b => V1 m c (Proc.devRef .tc b)) (none : HIx 1) pin_inj EP defs₀ 𝒱₀
    (K (F := F)).L (K (F := F)).lev
    (reduceSeg (fun c b => V1 m c (Proc.devRef .tc b)) (fun c b => V2 m c (Proc.devRef .tc b))
      (fun c => (V2_r m c).trans (congrArg (fun w : Vec F S32x1024 .f32 => (k1_pay1 w : Vec F S1x1024 .f32)) (V1_o m c).symm))
      (fun c b hb => Function.update_of_ne (fun e => hb (Proc.devRef_injective _ e)) _ _)) d none (fun _ h => nomatch h) .ret Φ
  have hl := (K (F := F)).wp_liftProg (D (F := F)) 𝒱 (T d) Set.univ none (.op (.customCall (Pipeline.entry 0) ()) .ret) Φ
  refine BI.Entails.trans ?_ (BI.Entails.trans hr hl)
  show iprop((iprop(boundary (T d) ∗ held (T d) S4 (V2 m d) ∗ ∃ W, owes (T d) (0 : CellTallies nD τ sig (HIx 1)) W) -∗ Φ ⟨⟩)
        ∗ boundary (T d) ∗ (held (T d) S4 (V1 m d) ∗ ∃ W, owes (T d) (0 : CellTallies nD τ sig (HIx 1)) W)
        ∗ levAts (K (F := F)).L (K (F := F)).lev ∗ G (F := F) d)
    ⊢ iprop((iprop(boundary (T d) ∗ unscopedBufs d (fun b => V2 m d (Proc.devRef .tc b)) ∗ ∃ W, owes (T d) (0 : CellTallies nD τ sig (HIx 1)) W)
          -∗ wp frame (wpE (D (F := F)) 𝒱 (T d) none) Set.univ (.ret ⟨⟩) Φ)
        ∗ boundary (T d) ∗ (unscopedBufs d (fun b => V1 m d (Proc.devRef .tc b)) ∗ ∃ W, owes (T d) (0 : CellTallies nD τ sig (HIx 1)) W)
        ∗ levAts (K (F := F)).L (K (F := F)).lev ∗ G (F := F) d)
  iintro ⟨Hk, Hb, ⟨Hh, HO⟩, Hl, Hc, Ht⟩
  isplitl [Hk]
  · iintro ⟨Hb, Hh, HO⟩
    rw [wp_ret]; imodintro
    iapply Hk
    isplitl [Hb]; · iexact Hb
    isplitl [Hh]; · iapply (Entails.of_eq (unscopedBufs_eq (F := F) d (V2 m d))); iexact Hh
    iexact HO
  isplitl [Hb]; · iexact Hb
  isplitl [Hh HO]
  · isplitl [Hh]; · iapply (Entails.of_eq (unscopedBufs_eq (F := F) d (V1 m d)).symm); iexact Hh
    iexact HO
  isplitl [Hl]; · iexact Hl
  isplitl [Hc]; · iexact Hc
  iexact Ht

/-! ## @main -/

/-- What @main leaves the claim: the samples as they were, the result at the histogram. -/
abbrev FIN (d : Dev nD) : sProp 𝕄 :=
  iprop((xLoc d ↦{fullShare} m (xLoc d)) ∗ zLoc d ↦{fullShare} (binsOf (m (xLoc d) : Vec F S1048576 .f32) : Vec F S1024 .f32))

/-- Every wait of the TensorCore sits below the end of the one call. -/
theorem wbelow (d : Dev nD) (W : Waits sig (HIx 1)) : (K (F := F)).WBelow (T d) W (8 * 1) := by
  rintro ⟨sm, q⟩ -
  have hp : (K (F := F)).place (T d, sm) ≤ 6 := by
    unfold SparseCore.Cfg.place
    split <;> (repeat' split) <;> omega
  match q with
  | none => exact Nat.zero_le _
  | some q =>
    show 8 * q.val + (K (F := F)).place (T d, sm) + 1 ≤ 8 * 1
    omega

/-- @main on a device's TensorCore: the SparseCore call, the reduction, the reshape. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) S4 (V0 m d) from unscopedBufs_eq (F := F) d (V0 m d), held_S4]
  simp only [main, wp_bind, wp_pure]
  iintro ⟨#Hctx, Hst, ⟨Hb, ⟨Hx, Ho, Hr, Hz⟩, Hts, -⟩, HG⟩
  iapply ((K (F := F)).wp_run (D (F := F)) 𝒱 (EH := EH) (P := P m) κ d 0) $$ [Hst Hx Ho Hb Hr Hz Hts HG]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- nothing is owed once the last call is over
  ihave Hst := (show (K (F := F)).tcSt EH d ((0 : Fin 1).val + 1) ⊢ (K (F := F)).tcSt EH d 1 from .rfl) $$ Hst
  unfold SparseCore.Cfg.tcSt
  rw [(K (F := F)).Otc_end d (le_refl 1)]
  icases Hst with ⟨⟨%W, -, HO⟩, Hst⟩
  ihave Hl := ((show (K (F := F)).ctx EH (P m) κ ⊢ levAts (K (F := F)).L (K (F := F)).lev from SparseCore.Cfg.ctx_levAts κ)) $$ Hctx
  iapply (wp_reduce m d)
  isplitr [Hb Hx Ho Hr Hz HO Hl HG]
  rotate_left
  · isplitl [Hb]; · iexact Hb
    isplitl [Hx Ho Hr Hz HO]
    · isplitr [HO]
      · rw [held_S4, V1_x, V1_o, V1_r, V1_z]
        isplitl [Hx]; · iexact Hx
        isplitl [Ho]; · iexact Ho
        isplitl [Hr]; · iexact Hr
        iexact Hz
      iexists W; iexact HO
    isplitl [Hl]; · iexact Hl
    iexact HG
  iintro ⟨Hb, Hh, ⟨%W', HO⟩⟩
  iapply (wp_hlo_within 𝒱 (SparseCore.T d) none Set.univ (op := opFlat (F := F)) (S := S4) hFlat (V := V2 m d)) $$ [Hb Hh]
  · isplitl [Hb]; · iexact Hb
    iexact Hh
  iintro ⟨Hb, Hh⟩
  ihave Hh := (Entails.of_eq (held_S4 (F := F) d _)) $$ Hh
  icases Hh with ⟨Hx, -, -, Hz⟩
  rw [wp_ret]; imodintro; imodintro
  isplitl [Hst HO]
  · isplitl [HO]
    · iexists W'; isplitr; · ipureintro; exact wbelow d W'
      iexact HO
    iexact Hst
  isplitl [Hx Hz]
  · isplitl [Hx]; · rw [flat_x]; iexact Hx
    rw [flat_z]; iexact Hz
  isplitl [Hb] <;> iassumption

/-- What the final memory is read for. -/
def fq (d : Dev nD) (s' : Phys nD τ sig (Elt F)) : Prop :=
  s'.mem.mem (xLoc d) = m (xLoc d) ∧ s'.mem.mem (zLoc d) = (binsOf (m (xLoc d) : Vec F S1048576 .f32) : Vec F S1024 .f32)

/-- What is held at the end says what memory holds. -/
theorem hfin (d : Dev nD) (s' : Phys nD τ sig (Elt F)) : iprop(FIN m d ∗ SI s') ⊢ (⌜fq m d s'⌝ : sProp 𝕄) := by
  iintro ⟨⟨Hx, Hz⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := zLoc d) (I := Finset.univ) (q := fullShare) (f := (binsOf (m (xLoc d) : Vec F S1048576 .f32) : Vec F S1024 .f32))) $$ [HSI Hz]
  · isplitl [HSI] <;> iassumption
  icases H with %hz
  ipureintro; exact ⟨funext fun i => hx i (Finset.mem_univ i), funext fun i => hz i (Finset.mem_univ i)⟩

/-! ## The program's run -/

/-- What the run ends with: on every device the samples unchanged and the result at the histogram, every counter at zero. -/
def QC : PUnit × MemSt nD τ sig (Elt F) → Prop := fun r =>
  (∀ c : Dev nD, r.2.mem (xLoc c) = m (xLoc c) ∧ r.2.mem (zLoc c) = (binsOf (m (xLoc c) : Vec F S1048576 .f32) : Vec F S1024 .f32)) ∧ r.2.sem = fun _ => 0

/-- The program runs to the end: the samples are as they were, the result is `binsOf` of them, and every counter is
zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.HistKernelIdeal

end
-- ==== Proof.Value.Term.lean ====
/-
  One sample's share of one bin, over the extended reals: the Gaussian weight as the reference writes it, the
  nine weights as the kernel's recurrence makes them, and that the two agree.
-/
module

public import Idealize.ShloMosaic.PureOps.Ideal

@[expose] public section

noncomputable section

namespace Cert.Proof.Hist

open Idealize.ShloMosaic

/-- A sample's place among the bins, in units of the bin distance. -/
def place (x : EReal) : EReal := (x - Ideal.ofBits .f32 0xC0800000#32) * Ideal.ofBits .f32 0x42FFC000#32

/-- The word of the sample's nearest bin. -/
def nearWord (x : EReal) : BitVec 32 := Ideal.fptosi 32 (place x + Ideal.ofBits .f32 0x3F000000#32)

/-- The nearest bin, as an integer. -/
def near (x : EReal) : ℤ := (nearWord x).toInt

/-- The sample's offset from its nearest bin. -/
def offset (x : EReal) : EReal := place x - ((near x : ℝ) : EReal)

/-- The kernel's constant ratio from the `n`-th weight to the next: `exp (-ρ² (n - 7/2))`. -/
def stepRatio (n : ℕ) : EReal := ((Real.exp (-(1048576 / 1046529) * ((n : ℝ) - 7 / 2)) : ℝ) : EReal)

/-- The kernel's nine weights of a sample, each from the one before. -/
def wgt (x : EReal) : ℕ → EReal
  | 0 => Ideal.exp (((-524288 / 1046529 : ℝ) : EReal) *
      ((offset x + Ideal.ofBits .f32 0x40800000#32) * (offset x + Ideal.ofBits .f32 0x40800000#32)))
  | n + 1 => wgt x n * (Ideal.exp (((1048576 / 1046529 : ℝ) : EReal) * offset x) * stepRatio n)

/-- The centre of bin `j`. -/
def centre (j : ℕ) : EReal := ((-4 + 8 * (j : ℝ) / 1023 : ℝ) : EReal)

/-- The sample's distance from the centre of bin `j`, in standard deviations. -/
def dist (x : EReal) (j : ℕ) : EReal := Ideal.div (x - centre j) (Ideal.ofBits .f32 0x3C000000#32)

/-- The Gaussian of that distance. -/
def gauss (x : EReal) (j : ℕ) : EReal := Ideal.exp (Ideal.ofBits .f32 0xBF000000#32 * dist x j * dist x j)

/-- What the sample adds to bin `j`: the Gaussian where the sample's nearest bin is at most four from `j`. -/
def term (x : EReal) (j : ℕ) : EReal :=
  if (j : ℤ) - 4 ≤ near x ∧ near x ≤ (j : ℤ) + 4 then gauss x j else 0

/-- The lower end of the range, -/
theorem bits_neg_four : Ideal.ofBits .f32 0xC0800000#32 = ((-4 : ℝ) : EReal) := by
  simp [Ideal.ofBits, Ideal.ieee, -EReal.coe_mul, -EReal.coe_neg]; norm_num
/-- the upper end, -/
theorem bits_four : Ideal.ofBits .f32 0x40800000#32 = ((4 : ℝ) : EReal) := by
  simp [Ideal.ofBits, Ideal.ieee, -EReal.coe_mul, -EReal.coe_neg]; norm_num
/-- bins per unit, -/
theorem bits_rate : Ideal.ofBits .f32 0x42FFC000#32 = ((1023 / 8 : ℝ) : EReal) := by
  simp [Ideal.ofBits, Ideal.ieee, -EReal.coe_mul, -EReal.coe_neg]; norm_num
/-- one half, -/
theorem bits_half : Ideal.ofBits .f32 0x3F000000#32 = ((1 / 2 : ℝ) : EReal) := by
  simp [Ideal.ofBits, Ideal.ieee, -EReal.coe_mul, -EReal.coe_neg]; norm_num
/-- minus one half, -/
theorem bits_neg_half : Ideal.ofBits .f32 0xBF000000#32 = ((-1 / 2 : ℝ) : EReal) := by
  simp [Ideal.ofBits, Ideal.ieee, -EReal.coe_mul, -EReal.coe_neg]; norm_num
/-- and the standard deviation, read as reals. -/
theorem bits_sigma : Ideal.ofBits .f32 0x3C000000#32 = ((1 / 128 : ℝ) : EReal) := by
  simp [Ideal.ofBits, Ideal.ieee, -EReal.coe_mul, -EReal.coe_neg]; norm_num

/-- A sample below every real lies left of every bin's window, -/
theorem near_bot : near ⊥ = -2147483648 := by
  have h : place ⊥ + Ideal.ofBits .f32 0x3F000000#32 = ⊥ := by
    rw [place, bits_neg_four, bits_rate, bits_half, sub_eq_add_neg, EReal.bot_add,
      EReal.bot_mul_of_pos (by rw [EReal.coe_pos]; norm_num), EReal.bot_add]
  rw [near, nearWord, h]; decide

/-- and one above every real lies right of it. -/
theorem near_top : near ⊤ = 2147483647 := by
  have h : place ⊤ + Ideal.ofBits .f32 0x3F000000#32 = ⊤ := by
    rw [place, bits_neg_four, bits_rate, bits_half, EReal.top_sub_coe,
      EReal.top_mul_of_pos (by rw [EReal.coe_pos]; norm_num), EReal.top_add_coe]
  rw [near, nearWord, h]; decide

/-- A real sample's place. -/
theorem place_coe (r : ℝ) : place (r : EReal) = (((r + 4) * (1023 / 8) : ℝ) : EReal) := by
  rw [place, bits_neg_four, bits_rate, ← EReal.coe_sub, ← EReal.coe_mul, sub_neg_eq_add]

/-- A real sample's offset. -/
theorem offset_coe (r : ℝ) :
    offset (r : EReal) = (((r + 4) * (1023 / 8) - (near (r : EReal) : ℝ) : ℝ) : EReal) := by
  rw [offset, place_coe, ← EReal.coe_sub]

/-- A real sample's `n`-th weight is the Gaussian of its distance from the `n`-th of the nine bins. -/
theorem wgt_coe (r : ℝ) (n : ℕ) :
    wgt (r : EReal) n = ((Real.exp (-524288 / 1046529 *
      ((r + 4) * (1023 / 8) - (near (r : EReal) : ℝ) + 4 - n) ^ 2) : ℝ) : EReal) := by
  induction n with
  | zero =>
    rw [wgt, offset_coe, bits_four, ← EReal.coe_add, ← EReal.coe_mul, ← EReal.coe_mul, Ideal.exp_coe]
    congr 3; push_cast; ring
  | succ n ih =>
    rw [wgt, ih, offset_coe, ← EReal.coe_mul, Ideal.exp_coe, stepRatio, ← EReal.coe_mul, ← EReal.coe_mul,
      ← Real.exp_add, ← Real.exp_add]
    congr 2; push_cast; ring

/-- A real sample's Gaussian at bin `j`. -/
theorem gauss_coe (r : ℝ) (j : ℕ) :
    gauss (r : EReal) j
      = ((Real.exp (-524288 / 1046529 * ((r + 4) * (1023 / 8) - j) ^ 2) : ℝ) : EReal) := by
  have hd : dist (r : EReal) j = (((r + 4) * 128 - (j : ℝ) * (1024 / 1023) : ℝ) : EReal) := by
    rw [dist, centre, bits_sigma, Ideal.div_coe (by norm_num), ← EReal.coe_sub, ← EReal.coe_mul]
    congr 1; ring
  rw [gauss, hd, bits_neg_half, ← EReal.coe_mul, ← EReal.coe_mul, Ideal.exp_coe]
  congr 2; ring

/-- The nine weights, each at its bin, are what the sample adds to bin `j`. -/
theorem sum_wgt (x : EReal) (j : ℕ) (hj : j < 1024) :
    ∑ n ∈ Finset.range 9, (if near x + (n : ℤ) - 4 = (j : ℤ) then wgt x n else 0) = term x j := by
  by_cases h : (j : ℤ) - 4 ≤ near x ∧ near x ≤ (j : ℤ) + 4
  · have hx : ∃ r : ℝ, x = (r : EReal) := by
      induction x with
      | bot => rw [near_bot] at h; omega
      | top => rw [near_top] at h; omega
      | coe r => exact ⟨r, rfl⟩
    obtain ⟨r, rfl⟩ := hx
    obtain ⟨n, hn⟩ : ∃ n : ℕ, (n : ℤ) = j - near (r : EReal) + 4 := ⟨(j - near (r : EReal) + 4).toNat, by omega⟩
    have hmem : n ∈ Finset.range 9 := Finset.mem_range.2 (by omega)
    rw [Finset.sum_eq_single_of_mem n hmem (fun b _ hb => if_neg (by omega)), if_pos (by omega), term, if_pos h,
      wgt_coe, gauss_coe]
    have hn' : (n : ℝ) = j - (near (r : EReal) : ℝ) + 4 := by exact_mod_cast hn
    rw [hn']
    congr 3; ring
  · rw [term, if_neg h]
    refine Finset.sum_eq_zero fun n hn => if_neg ?_
    have := Finset.mem_range.1 hn
    omega

/-- A sum over `a` groups of `b` neighbours is the sum over all of them. -/
theorem sum_groups (a b : ℕ) (f : ℕ → EReal) :
    ∑ i ∈ Finset.range a, ∑ l ∈ Finset.range b, f (b * i + l) = ∑ p ∈ Finset.range (b * a), f p := by
  induction a with
  | zero => simp
  | succ a ih => rw [Finset.sum_range_succ, ih, Nat.mul_succ, Finset.sum_range_add]

end Cert.Proof.Hist

end
-- ==== Proof.Value.Hist.lean ====
/-
  The idealized kernel's histogram, bin by bin: each vector of sixteen samples adds to lane `l`'s bin `j` what
  sample `l` of the vector adds to bin `j`, so the tiles' histograms, summed over lanes, vectors and tiles, hold
  the sum over all samples.
-/
module

public import proofs.«01_k».proof.Proof.KernelIdeal.Launch
public import proofs.«01_k».proof.Proof.Value.Term
public import Idealize.ShloMosaic.Lib.Pointwise.Reduce
public import Idealize.ShloMosaic.Lib.Pipeline.Value

@[expose] public section

noncomputable section

namespace Cert.Proof.Hist

open Cert.KernelIdeal Cert.KernelIdeal.Gen Cert.Proof.HistKernelIdeal
open Idealize.ShloMosaic

/-! ## Words -/

/-- Adding `n - 4` to a word gives the word of the integer `j` among the bins exactly where the integers say so:
a sum that wraps around is none of the bins. -/
theorem shifted_eq (w : BitVec 32) (n j : ℕ) (hn : n < 9) (hj : j < 1024) :
    (IntOp.addi w (shiftWord n)).toInt = (j : ℤ) ↔ w.toInt + (n : ℤ) - 4 = (j : ℤ) := by
  have h : (shiftWord n).toNat = (4294967292 + n) % 4294967296 := by
    simp [shiftWord, BitVec.toNat_ofNat]
  have hs : (IntOp.addi w (shiftWord n)).toNat = (w.toNat + (shiftWord n).toNat) % 4294967296 := by
    simp [IntOp.addi, BitVec.toNat_add]
  have h1 := BitVec.toInt_eq_toNat_cond w
  have h2 := BitVec.toInt_eq_toNat_cond (IntOp.addi w (shiftWord n))
  have hw := w.isLt
  rw [h1, h2, hs, h]
  split_ifs <;> omega

/-- A bin word passes the mask and, clamped, is `j`, exactly where it is the word of `j`. -/
theorem slot_iff (w : BitVec 32) (j : ℕ) (hj : j < 1024) :
    (IntOp.andi (IntOp.cmpi .sge w 0#32) (IntOp.cmpi .slt w 1024#32) = 1#1
      ∧ j = (IntOp.minsi (IntOp.maxsi w 0#32) 1023#32).toNat) ↔ w.toInt = (j : ℤ) := by
  have h0 : (0#32 : BitVec 32).toInt = 0 := by decide
  have h1 : (1023#32 : BitVec 32).toInt = 1023 := by decide
  have h2 : (1024#32 : BitVec 32).toInt = 1024 := by decide
  have h3 : (1023#32 : BitVec 32).toNat = 1023 := by decide
  have hw := BitVec.toInt_eq_toNat_cond w
  have hb := w.isLt
  have ha : IntOp.andi (IntOp.cmpi .sge w 0#32) (IntOp.cmpi .slt w 1024#32) = 1#1 ↔ 0 ≤ w.toInt ∧ w.toInt < 1024 := by
    simp only [IntOp.andi, IntOp.cmpi, BitVec.slt_eq_decide, BitVec.sle_eq_decide, h0, h2]
    by_cases hp : 0 ≤ w.toInt <;> by_cases hq : w.toInt < 1024 <;> simp [hp, hq]
  rw [ha]
  simp only [IntOp.minsi, IntOp.maxsi, BitVec.slt_eq_decide, BitVec.sle_eq_decide, decide_eq_true_eq]
  split_ifs <;> simp_all <;> omega

/-! ## One scatter-add -/

/-- Bin `j` of lane `l`'s histogram. -/
def entry (l : Fin 16) (j : Fin 1024) : S16384.Idx := fun a => match a with
  | 0 => ⟨1024 * l.val + j.val, by have := l.isLt; have := j.isLt; show _ < 16384; omega⟩

/-- Lane `l` of a vector. -/
def lane (l : Fin 16) : S16.Idx := Shape.ofLane (d := ![16]) l

/-- The lane that `lane l` names. -/
theorem lane_val (l : Fin 16) : (lane l 0).val = l.val := rfl

/-- The scatter-add's writes over a list of lanes, one lane after another. -/
theorem fold_lanes (w : IVec S16 32) (v : FVec Ideal S16 .f32) (l : Fin 16) (j : Fin 1024) (ks : List (Fin 16))
    (hk : ks.Nodup) (g : Vec Ideal S16384 .f32) :
    (ks.foldl (fun g k =>
      if inBins w (lane k) = 1 then
        fun e => if (∀ a, (e a).val = (idxAt (s := S16384) ![slotWords w] (slot_lt w) (lane k) a).val)
          then Elt.idxAdd .f32 (g (idxAt (s := S16384) ![slotWords w] (slot_lt w) (lane k))) (v (lane k)) else g e
      else g) g) (entry l j)
    = g (entry l j) + (if l ∈ ks ∧ (w (lane l)).toInt = (j.val : ℤ) then v (lane l) else 0 : EReal) := by
  induction ks generalizing g with
  | nil => simp
  | cons k ks ih =>
    rw [List.foldl_cons, ih (List.nodup_cons.1 hk).2]
    have hslot : (∀ a, (entry l j a).val = (idxAt (s := S16384) ![slotWords w] (slot_lt w) (lane k) a).val)
        ↔ 1024 * l.val + j.val = 1024 * k.val + (IntOp.minsi (IntOp.maxsi (w (lane k)) 0#32) 1023#32).toNat := by
      have h0 : (idxAt (s := S16384) ![slotWords w] (slot_lt w) (lane k) 0).val
          = 1024 * k.val + (IntOp.minsi (IntOp.maxsi (w (lane k)) 0#32) 1023#32).toNat := slot_toNat w (lane k)
      constructor
      · intro h; rw [← h0, ← h 0]; rfl
      · intro h a
        match a with
        | 0 => rw [h0, ← h]; rfl
    have hc := clamp_le (w (lane k))
    have hj := j.isLt
    have hin : inBins w (lane k) = IntOp.andi (IntOp.cmpi .sge (w (lane k)) 0#32) (IntOp.cmpi .slt (w (lane k)) 1024#32) := rfl
    by_cases hlk : l = k
    · subst hlk
      have hnot : ¬ (l ∈ ks ∧ (w (lane l)).toInt = (j.val : ℤ)) := fun h => (List.nodup_cons.1 hk).1 h.1
      rw [if_neg hnot, add_zero]
      have hiff := slot_iff (w (lane l)) j.val hj
      by_cases hm : inBins w (lane l) = 1
      · rw [if_pos hm]
        by_cases hs : ∀ a, (entry l j a).val = (idxAt (s := S16384) ![slotWords w] (slot_lt w) (lane l) a).val
        · have he : idxAt (s := S16384) ![slotWords w] (slot_lt w) (lane l) = entry l j :=
            funext fun a => Fin.ext (hs a).symm
          have hq := hslot.1 hs
          rw [if_pos hs, he, if_pos ⟨List.mem_cons_self, hiff.1 ⟨hin ▸ hm, by omega⟩⟩]
          rfl
        · rw [if_neg hs, if_neg, add_zero]
          rintro ⟨-, h⟩
          exact hs (hslot.2 (by have := (hiff.2 h).2; omega))
      · rw [if_neg hm, if_neg, add_zero]
        rintro ⟨-, h⟩
        exact hm (hin ▸ (hiff.2 h).1)
    · have hs : ¬ ∀ a, (entry l j a).val = (idxAt (s := S16384) ![slotWords w] (slot_lt w) (lane k) a).val := by
        intro h
        have := hslot.1 h
        exact hlk (Fin.ext (by omega))
      have hg : (if inBins w (lane k) = 1 then
          fun e => if (∀ a, (e a).val = (idxAt (s := S16384) ![slotWords w] (slot_lt w) (lane k) a).val)
            then Elt.idxAdd .f32 (g (idxAt (s := S16384) ![slotWords w] (slot_lt w) (lane k))) (v (lane k)) else g e
          else g) (entry l j) = g (entry l j) := by
        by_cases hm : inBins w (lane k) = 1
        · rw [if_pos hm, if_neg hs]
        · rw [if_neg hm]
      rw [hg]
      have : (l ∈ k :: ks ∧ (w (lane l)).toInt = (j.val : ℤ)) ↔ (l ∈ ks ∧ (w (lane l)).toInt = (j.val : ℤ)) := by
        simp [hlk]
      simp only [this]

/-- A scatter-add adds lane `l`'s weight to bin `j` of its histogram where the lane's bin is `j`. -/
theorem addBin_entry (f : Vec Ideal S16384 .f32) (w : IVec S16 32) (v : FVec Ideal S16 .f32) (l : Fin 16) (j : Fin 1024) :
    addBin f w v (entry l j) = (f (entry l j) + (if (w (lane l)).toInt = (j.val : ℤ) then v (lane l) else 0) : EReal) := by
  have h := fold_lanes w v l j (List.finRange 16) (List.nodup_finRange 16) f
  simp only [List.mem_finRange, true_and] at h
  rw [← h]
  unfold addBin storeIdx
  simp only [if_true]
  congr 1

/-! ## One vector of samples -/

/-- The eight ratios of neighbouring weights. -/
theorem ratio_lane (n : ℕ) (hn : n < 8) (l : S16.Idx) : ratio (F := Ideal) n l = stepRatio n := by
  have e35 : Ideal.ofBits .f32 0x40600000#32 = ((7 / 2 : ℝ) : EReal) := by
    simp [Ideal.ofBits, Ideal.ieee, -EReal.coe_mul, -EReal.coe_neg]; norm_num
  have e25 : Ideal.ofBits .f32 0x40200000#32 = ((5 / 2 : ℝ) : EReal) := by
    simp [Ideal.ofBits, Ideal.ieee, -EReal.coe_mul, -EReal.coe_neg]; norm_num
  have e15 : Ideal.ofBits .f32 0x3FC00000#32 = ((3 / 2 : ℝ) : EReal) := by
    simp [Ideal.ofBits, Ideal.ieee, -EReal.coe_mul, -EReal.coe_neg]; norm_num
  have pos (b : BitVec 32) (r : ℝ) (hb : Ideal.ofBits .f32 b = (r : EReal)) (n : ℕ) (h : r = 7 / 2 - n) :
      Ideal.exp (Ideal.ofBits .f32 b * ((1048576 / 1046529 : ℝ) : EReal)) = stepRatio n := by
    rw [hb, ← EReal.coe_mul, Ideal.exp_coe, stepRatio, h]; congr 2; ring
  have neg (b : BitVec 32) (r : ℝ) (hb : Ideal.ofBits .f32 b = (r : EReal)) (n : ℕ) (h : r = n - 7 / 2) :
      Ideal.exp (Ideal.ofBits .f32 b * ((-1048576 / 1046529 : ℝ) : EReal)) = stepRatio n := by
    rw [hb, ← EReal.coe_mul, Ideal.exp_coe, stepRatio, h]; congr 2; ring
  match n, hn with
  | 0, _ => exact pos _ _ e35 0 (by norm_num)
  | 1, _ => exact pos _ _ e25 1 (by norm_num)
  | 2, _ => exact pos _ _ e15 2 (by norm_num)
  | 3, _ => exact pos _ _ bits_half 3 (by norm_num)
  | 4, _ => exact neg _ _ bits_half 4 (by norm_num)
  | 5, _ => exact neg _ _ e15 5 (by norm_num)
  | 6, _ => exact neg _ _ e25 6 (by norm_num)
  | 7, _ => exact neg _ _ e35 7 (by norm_num)

/-- A lane's nine weights are its sample's. -/
theorem weight_lane (x : Vec Ideal S16 .f32) (l : S16.Idx) (n : ℕ) (hn : n < 9) :
    weight (F := Ideal) x n l = wgt (x l) n := by
  induction n with
  | zero => rfl
  | succ n ih =>
    have h : weight (F := Ideal) x (n + 1) l
        = (weight (F := Ideal) x n l * (k0_pay12 (F := Ideal) x l * ratio (F := Ideal) n l) : EReal) := rfl
    rw [h, ih (by omega), ratio_lane n (by omega)]
    rfl

/-- The first `n` scatter-adds, at an entry. -/
theorem partStep_entry (x : Vec Ideal S16 .f32) (f : Vec Ideal S16384 .f32) (l : Fin 16) (j : Fin 1024) (n : ℕ) (hn : n ≤ 9) :
    partStep (F := Ideal) x f n (entry l j) = (f (entry l j)
      + ∑ k ∈ Finset.range n, (if near (x (lane l)) + (k : ℤ) - 4 = (j.val : ℤ) then wgt (x (lane l)) k else 0) : EReal) := by
  induction n with
  | zero => simp [partStep]
  | succ n ih =>
    have hw : (binWords (F := Ideal) x n (lane l)).toInt = (j.val : ℤ) ↔ near (x (lane l)) + (n : ℤ) - 4 = (j.val : ℤ) :=
      shifted_eq (nearWord (x (lane l))) n j.val (by omega) j.isLt
    rw [partStep, addBin_entry, ih (by omega), Finset.sum_range_succ, weight_lane x _ n (by omega), add_assoc]
    simp only [hw]

/-- A vector of samples adds to lane `l`'s bin `j` what its sample `l` adds to bin `j`. -/
theorem step_entry (x : Vec Ideal S16 .f32) (f : Vec Ideal S16384 .f32) (l : Fin 16) (j : Fin 1024) :
    step (F := Ideal) x f (entry l j) = (f (entry l j) + term (x (lane l)) j.val : EReal) := by
  rw [step, partStep_entry x f l j 9 le_rfl, sum_wgt _ _ j.isLt]

/-! ## One tile -/

/-- A tile's `p`-th sample's share of bin `j`, nothing past the tile's samples. -/
def share (xs : Vec Ideal S32768 .f32) (j : ℕ) (p : ℕ) : EReal :=
  if h : p < 32768 then term (xs fun a => match a with | 0 => ⟨p, h⟩) j else 0

/-- Lane `l`'s histogram after `k` vectors. -/
theorem hists_entry (xs : Vec Ideal S32768 .f32) (l : Fin 16) (j : Fin 1024) (k : ℕ) (hk : k ≤ 2048) :
    hists (F := Ideal) xs k (entry l j) = ∑ i ∈ Finset.range k, share xs j.val (16 * i + l.val) := by
  induction k with
  | zero =>
    show Ideal.ofBits .f32 0#32 = _
    simp [Ideal.ofBits, Ideal.ieee]
  | succ k ih =>
    have hl := l.isLt
    rw [hists, dif_pos (by omega : k < 2048), step_entry, ih (by omega), Finset.sum_range_succ]
    congr 1
    rw [share, dif_pos (by omega : 16 * k + l.val < 32768)]
    rfl

/-- The sum of the lanes' histograms at a bin. -/
theorem total_bin (f : Vec Ideal S16384 .f32) (j : Fin 1024) :
    total (F := Ideal) f (fun a => match a with | 0 => j) = ∑ l : Fin 16, f (entry l j) := by
  have hj := j.isLt
  have hr (r : Fin 16) : laneRow (F := Ideal) f (j.val / 16) (by omega)
      r (fun a => match a with | 0 => ⟨j.val % 16, Nat.mod_lt _ (by decide)⟩) = f (entry r j) := by
    refine congrArg f (funext fun a => ?_)
    match a with
    | 0 => exact Fin.ext (by show 1024 * r.val + 16 * (j.val / 16) + j.val % 16 = 1024 * r.val + j.val; omega)
  have h : total (F := Ideal) f (fun a => match a with | 0 => j)
      = (f (entry 0 j) + f (entry 1 j) + f (entry 2 j) + f (entry 3 j) + f (entry 4 j) + f (entry 5 j) + f (entry 6 j)
        + f (entry 7 j) + f (entry 8 j) + f (entry 9 j) + f (entry 10 j) + f (entry 11 j) + f (entry 12 j)
        + f (entry 13 j) + f (entry 14 j) + f (entry 15 j) : EReal) := by
    simp only [← hr]; rfl
  rw [h]
  simp only [Fin.sum_univ_succ, Fin.sum_univ_zero]
  simp only [← add_assoc, add_zero]
  rfl

/-- A tile's histogram at bin `j`: the sum over its samples. -/
theorem tileHist_bin (xs : Vec Ideal S32768 .f32) (j : Fin 1024) :
    tileHist (F := Ideal) xs (fun a => match a with | 0 => j) = ∑ p ∈ Finset.range 32768, share xs j.val p := by
  rw [tileHist, total_bin]
  simp only [fun l => hists_entry xs l j 2048 le_rfl]
  rw [Finset.sum_comm, show (32768 : ℕ) = 16 * 2048 from rfl, ← sum_groups]
  refine Finset.sum_congr rfl fun i _ => ?_
  rw [Finset.sum_range]

/-! ## All tiles -/

/-- The `p`-th sample's share of bin `j`, nothing past the samples. -/
def shareAll (x : Vec Ideal S1048576 .f32) (j : ℕ) (p : ℕ) : EReal :=
  if h : p < 1048576 then term (x fun a => match a with | 0 => ⟨p, h⟩) j else 0

/-- The tiles' histograms at bin `j`, summed: the sum over all samples. -/
theorem rows_bin (x : Vec Ideal S1048576 .f32) (j : Fin 1024) :
    ∑ w : Fin 32, rowsOf (F := Ideal) x (fun a => match a with | 0 => w | 1 => j)
      = ∑ p ∈ Finset.range 1048576, shareAll x j.val p := by
  rw [show (1048576 : ℕ) = 32768 * 32 from rfl, ← sum_groups, Finset.sum_range]
  refine Finset.sum_congr rfl fun w _ => ?_
  refine (tileHist_bin (tileX x w) j).trans (Finset.sum_congr rfl fun p hp => ?_)
  have hp := Finset.mem_range.1 hp
  have hw := w.isLt
  rw [share, dif_pos hp, shareAll, dif_pos (by omega)]
  rfl

/-- The histogram the kernel returns, at bin `j`. -/
theorem binsOf_bin (x : Vec Ideal S1048576 .f32) (j : S1024.Idx) :
    binsOf (F := Ideal) x j = ((∑ p ∈ Finset.range 1048576, shareAll x (j 0).val p)
      * (((8192 * Real.sqrt (2 * Real.pi))⁻¹ : ℝ) : EReal) : EReal) := by
  rw [← rows_bin x (j 0)]
  have h : binsOf (F := Ideal) x j
      = ((shapeCast S1x1024 (multiReduction (F := Ideal) .add [0] S1024
          (shapeCast S32x1024 (rowsOf (F := Ideal) x) shapeCasts_S32x1024_S32x1024) 0x00000000#32
          reduces_S32x1024_S1024 (.inl rfl) rfl) shapeCasts_S1024_S1x1024 : FVec Ideal S1x1024 .f32)
          (fun a => match a with | 0 => (0 : Fin 1) | 1 => j 0)
        * (((8192 * Real.sqrt (2 * Real.pi))⁻¹ : ℝ) : EReal) : EReal) := rfl
  rw [h]
  congr 1
  refine (shapeCast_apply (s := S1024) (t := S1x1024) _ _ _ j ?_).trans ?_
  · rw [Shape.rowMajor_val_one, Shape.rowMajor_val_two]; simp
  refine (Shape.Reduces.sum_fiber_r2_a0 (t := S1024) reduces_S32x1024_S1024 j _).trans ?_
  refine Finset.sum_congr rfl fun w _ => ?_
  refine (shapeCast_apply (s := S32x1024) (t := S32x1024) _ _ _ _ rfl).trans ?_
  refine congrArg (rowsOf (F := Ideal) x) (funext fun a => ?_)
  match a with
  | 0 => rfl
  | 1 => rfl

end Cert.Proof.Hist

end
-- ==== Proof.Value.Ref.lean ====
/-
  The reference's histogram over the extended reals, bin by bin: the sum over all samples of what each adds to
  the bin, scaled as the kernel scales it.
-/
module

public import proofs.«01_k».proof.Proof.Gen.ReferenceIdeal.Run
public import proofs.«01_k».proof.Proof.Value.Hist
public import Idealize.ShloMosaic.Lib.IdealHost

@[expose] public section

noncomputable section

namespace Cert.Proof.Hist

open Cert.ReferenceIdeal Cert.ReferenceIdeal.Gen
open Idealize.ShloMosaic

/-! ## The bins' centres -/

/-- The numbers `0 … 1022` over 1023, where the reference interpolates. -/
abbrev steps : FVec Ideal S1023 .f32 :=
  Host.divf (sitofp .f32 (iotaInDim S1023 32 0)) (broadcastInDim S1023 ![] bcast_S_S1023 (constant S_ .f32 0x447FC000#32))

/-- The centres below the last. -/
abbrev inner : FVec Ideal S1023 .f32 :=
  addf (mulf (broadcastInDim S1023 ![0] bcast_S1_S1023_0 (shapeCast _ (id (constant S_ .f32 0xC0800000#32)) shapeCasts_S_S1))
      (subf (broadcastInDim S1023 ![] bcast_S_S1023 (constant S_ .f32 0x3F800000#32)) steps))
    (mulf (broadcastInDim S1023 ![0] bcast_S1_S1023_0 (shapeCast _ (id (constant S_ .f32 0x40800000#32)) shapeCasts_S_S1)) steps)

/-- The reference's 1024 bin centres. -/
abbrev centres : FVec Ideal S1024 .f32 :=
  concatenate S1024 0 [⟨S1023, inner⟩, ⟨S1, broadcastInDim S1 ![] bcast_S_S1 (id (constant S_ .f32 0x40800000#32))⟩]
    concatenates_S1023_S1_S1024_d0

/-- The number of steps between the first and the last bin. -/
theorem bits_1023 : Ideal.ofBits .f32 0x447FC000#32 = ((1023 : ℝ) : EReal) := by
  simp [Ideal.ofBits, Ideal.ieee, -EReal.coe_mul, -EReal.coe_neg]; norm_num

/-- The `i`-th step. -/
theorem steps_at (i : S1023.Idx) : steps i = (((i 0).val / 1023 : ℝ) : EReal) := by
  have h : steps i = Ideal.div (((BitVec.ofNat 32 (i 0).val).toInt : ℝ) : EReal) (Ideal.ofBits .f32 0x447FC000#32) := rfl
  have hi : (i 0).val < 1023 := (i 0).isLt
  have hv : (BitVec.ofNat 32 (i 0).val).toInt = (i 0).val := by
    rw [BitVec.toInt_eq_toNat_cond, BitVec.toNat_ofNat]; omega
  rw [h, hv, bits_1023, Ideal.div_coe (by norm_num), ← EReal.coe_mul]
  congr 1
  push_cast; ring

/-- The `i`-th centre below the last. -/
theorem inner_at (i : S1023.Idx) : inner i = centre (i 0).val := by
  have h : inner i = (Ideal.ofBits .f32 0xC0800000#32 * (Ideal.ofBits .f32 0x3F800000#32 - steps i)
      + Ideal.ofBits .f32 0x40800000#32 * steps i : EReal) := rfl
  have h1 : Ideal.ofBits .f32 0x3F800000#32 = ((1 : ℝ) : EReal) := by
    simp [Ideal.ofBits, Ideal.ieee, -EReal.coe_mul, -EReal.coe_neg]; norm_num
  rw [h, steps_at, bits_neg_four, bits_four, h1, ← EReal.coe_sub, ← EReal.coe_mul, ← EReal.coe_mul, ← EReal.coe_add, centre]
  congr 1; ring

/-- The centre of bin `j`. -/
theorem centres_at (j : S1024.Idx) : centres j = centre (j 0).val := by
  have hj : (j 0).val < 1024 := (j 0).isLt
  by_cases h : (j 0).val < 1023
  · refine (concatenate_pair_apply_left (t := S1024) (s₁ := S1023) (s₂ := S1) 0 _ _ _ j rfl
      (fun a => match a with | 0 => ⟨(j 0).val, h⟩) ?_).trans (inner_at _)
    intro b
    match b with
    | 0 => rfl
  · refine (concatenate_pair_apply_right (t := S1024) (s₁ := S1023) (s₂ := S1) 0 _ _ _ j rfl rfl
      (fun a => match a with | 0 => (0 : Fin 1)) ?_ ?_).trans ?_
    · intro b hb
      match b with
      | 0 => exact absurd rfl hb
    · show 0 + 1023 = (j 0).val
      omega
    · have h4 : (broadcastInDim S1 ![] bcast_S_S1 (id (constant (F := Ideal) S_ .f32 0x40800000#32)))
          (fun a => match a with | 0 => (0 : Fin 1)) = Ideal.ofBits .f32 0x40800000#32 := rfl
      refine h4.trans ?_
      have : (j 0).val = 1023 := by omega
      rw [bits_four, centre, this]; congr 1; norm_num

/-! ## The summands -/

variable (x : FVec Ideal S1048576 .f32)

/-- Each sample against each bin, as the reference lays them out. -/
abbrev spread : FVec Ideal S1048576x1024 .f32 :=
  broadcastInDim S1048576x1024 ![0, 1] bcast_S1048576x1_S1048576x1024_0_1 (broadcastInDim S1048576x1 ![0] bcast_S1048576_S1048576x1_0 x)

/-- The distances, in standard deviations. -/
abbrev dists : FVec Ideal S1048576x1024 .f32 :=
  Host.divf (subf (spread x) (broadcastInDim S1048576x1024 ![0, 1] bcast_S1x1024_S1048576x1024_0_1
      (broadcastInDim S1x1024 ![1] bcast_S1024_S1x1024_1 centres)))
    (broadcastInDim S1048576x1024 ![] bcast_S_S1048576x1024 (constant S_ .f32 0x3C000000#32))

/-- The Gaussians. -/
abbrev gausses : FVec Ideal S1048576x1024 .f32 :=
  Host.exp (mulf (mulf (broadcastInDim S1048576x1024 ![] bcast_S_S1048576x1024 (constant S_ .f32 0xBF000000#32)) (dists x)) (dists x))

/-- The nearest bins. -/
abbrev nears : IVec S1048576x1024 32 :=
  broadcastInDim S1048576x1024 ![0, 1] bcast_S1048576x1_S1048576x1024_0_1 (broadcastInDim S1048576x1 ![0] bcast_S1048576_S1048576x1_0
    (fptosi 32 (addf (mulf (subf x (broadcastInDim S1048576 ![] bcast_S_S1048576 (constant S_ .f32 0xC0800000#32)))
      (broadcastInDim S1048576 ![] bcast_S_S1048576 (constant S_ .f32 0x42FFC000#32)))
      (broadcastInDim S1048576 ![] bcast_S_S1048576 (constant S_ .f32 0x3F000000#32)))))

/-- The numbers of the bins, each four less, -/
abbrev lows : IVec S1048576x1024 32 :=
  broadcastInDim S1048576x1024 ![0, 1] bcast_S1x1024_S1048576x1024_0_1
    (subi (broadcastInDim S1x1024 ![1] bcast_S1024_S1x1024_1 (iotaInDim S1024 32 0)) (broadcastInDim S1x1024 ![] bcast_S_S1x1024 (constantI S_ 32 4#32)))
/-- and each four more. -/
abbrev highs : IVec S1048576x1024 32 :=
  broadcastInDim S1048576x1024 ![0, 1] bcast_S1x1024_S1048576x1024_0_1
    (addi (broadcastInDim S1x1024 ![1] bcast_S1024_S1x1024_1 (iotaInDim S1024 32 0)) (broadcastInDim S1x1024 ![] bcast_S_S1x1024 (constantI S_ 32 4#32)))

/-- The Gaussians inside the window, zero outside. -/
abbrev terms : FVec Ideal S1048576x1024 .f32 :=
  select (andi (cmpi .sge (nears x) lows) (cmpi .sle (nears x) highs)) (gausses x)
    (broadcastInDim S1048576x1024 ![] bcast_S_S1048576x1024 (id (constant S_ .f32 0x00000000#32)))

/-- A sample's index, -/
abbrev ixX (p : Fin 1048576) : S1048576.Idx := fun a => match a with | 0 => p
/-- a bin's, -/
abbrev ixJ (j : Fin 1024) : S1024.Idx := fun a => match a with | 0 => j
/-- and of the two together. -/
abbrev ixXJ (p : Fin 1048576) (j : Fin 1024) : S1048576x1024.Idx := ValueIdx.ix2 p j

/-- A column of the samples laid out against the bins reads the sample. -/
theorem spread_at {α : Type} (y : S1048576.Idx → α) (p : Fin 1048576) (j : Fin 1024) :
    broadcastInDim S1048576x1024 ![0, 1] bcast_S1048576x1_S1048576x1024_0_1 (broadcastInDim S1048576x1 ![0] bcast_S1048576_S1048576x1_0 y)
      (ixXJ p j) = y (ixX p) := by
  refine (broadcastInDim_apply (s := S1048576x1) (t := S1048576x1024) _ _ _ _
    (fun a => match a with | 0 => p | 1 => (0 : Fin 1)) ?_).trans
    (broadcastInDim_apply (s := S1048576) (t := S1048576x1) _ _ _ _ (ixX p) ?_)
  · intro a
    match a with
    | 0 => rfl
    | 1 => rfl
  · intro a
    match a with
    | 0 => rfl

/-- A row over the bins laid out against the samples reads the bin. -/
theorem row_at {α : Type} (y : S1x1024.Idx → α) (p : Fin 1048576) (j : Fin 1024) :
    broadcastInDim S1048576x1024 ![0, 1] bcast_S1x1024_S1048576x1024_0_1 y (ixXJ p j)
      = y (fun a => match a with | 0 => (0 : Fin 1) | 1 => j) := by
  refine broadcastInDim_apply (s := S1x1024) (t := S1048576x1024) _ _ _ _ _ ?_
  intro a
  match a with
  | 0 => rfl
  | 1 => rfl

/-- A vector over the bins, made a row, reads the bin. -/
theorem bins_at {α : Type} (y : S1024.Idx → α) (j : Fin 1024) :
    broadcastInDim S1x1024 ![1] bcast_S1024_S1x1024_1 y (fun a => match a with | 0 => (0 : Fin 1) | 1 => j) = y (ixJ j) := by
  refine broadcastInDim_apply (s := S1024) (t := S1x1024) _ _ _ _ _ ?_
  intro a
  match a with
  | 0 => rfl

/-- The reference's Gaussian of a sample at a bin. -/
theorem gausses_at (p : Fin 1048576) (j : Fin 1024) : gausses x (ixXJ p j) = gauss (x (ixX p)) j.val := by
  have hd : dists x (ixXJ p j) = dist (x (ixX p)) j.val := by
    have h : dists x (ixXJ p j) = Ideal.div (spread x (ixXJ p j) - broadcastInDim S1048576x1024 ![0, 1] bcast_S1x1024_S1048576x1024_0_1
        (broadcastInDim S1x1024 ![1] bcast_S1024_S1x1024_1 centres) (ixXJ p j)) (Ideal.ofBits .f32 0x3C000000#32) := rfl
    exact h.trans ((congrArg₂ (fun a b : EReal => Ideal.div (a - b) (Ideal.ofBits .f32 0x3C000000#32)) (spread_at x p j)
      ((row_at _ p j).trans ((bins_at centres j).trans (centres_at _)))))
  have h : gausses x (ixXJ p j)
      = Ideal.exp (Ideal.ofBits .f32 0xBF000000#32 * dists x (ixXJ p j) * dists x (ixXJ p j)) := rfl
  rw [h, hd]; rfl

/-- The reference's summand of a sample at a bin is what the sample adds to the bin. -/
theorem terms_at (p : Fin 1048576) (j : Fin 1024) : terms x (ixXJ p j) = term (x (ixX p)) j.val := by
  have hj := j.isLt
  have hg := gausses_at x p j
  have hn : nears x (ixXJ p j) = nearWord (x (ixX p)) := spread_at _ p j
  have hlo : lows (ixXJ p j) = IntOp.subi (BitVec.ofNat 32 j.val) 4#32 := by
    refine (row_at _ p j).trans ?_
    exact congrArg (fun b => IntOp.subi b 4#32) (bins_at (iotaInDim S1024 32 0) j)
  have hhi : highs (ixXJ p j) = IntOp.addi (BitVec.ofNat 32 j.val) 4#32 := by
    refine (row_at _ p j).trans ?_
    exact congrArg (fun b => IntOp.addi b 4#32) (bins_at (iotaInDim S1024 32 0) j)
  have hl : (IntOp.subi (BitVec.ofNat 32 j.val) 4#32).toInt = (j.val : ℤ) - 4 := by
    rw [BitVec.toInt_eq_toNat_cond]; simp only [IntOp.subi, BitVec.toNat_sub, BitVec.toNat_ofNat]; omega
  have hh : (IntOp.addi (BitVec.ofNat 32 j.val) 4#32).toInt = (j.val : ℤ) + 4 := by
    rw [BitVec.toInt_eq_toNat_cond]; simp only [IntOp.addi, BitVec.toNat_add, BitVec.toNat_ofNat]; omega
  have h0 : Ideal.ofBits .f32 0x00000000#32 = 0 := by simp [Ideal.ofBits, Ideal.ieee]
  have h : terms x (ixXJ p j) = if IntOp.andi (IntOp.cmpi .sge (nears x (ixXJ p j)) (lows (ixXJ p j)))
      (IntOp.cmpi .sle (nears x (ixXJ p j)) (highs (ixXJ p j))) = 1#1
      then gausses x (ixXJ p j) else Ideal.ofBits .f32 0x00000000#32 := rfl
  rw [h, hn, hlo, hhi, hg, h0, term]
  simp only [IntOp.andi, IntOp.cmpi, BitVec.slt_eq_decide, BitVec.sle_eq_decide, hl, hh]
  refine if_congr ?_ rfl rfl
  have hb : ∀ a b : Bool, BitVec.ofBool a &&& BitVec.ofBool b = 1#1 ↔ a = true ∧ b = true := by decide
  rw [hb, decide_eq_true_iff, decide_eq_true_iff, near]

/-! ## The result -/

/-- The reference's divisor: the number of samples, the standard deviation and the root of twice `π`. -/
theorem divisor : (mulf (mulf (constant S_ .f32 0x49800000#32) (constant S_ .f32 0x3C000000#32))
      (Host.sqrt (mulf (constant S_ .f32 0x40000000#32)
        (Host.atan2 (constant S_ .f32 0x00000000#32) (constant S_ .f32 0xBF800000#32)))) : FVec Ideal S_ .f32)
      ValueIdx.ix0 = ((8192 * Real.sqrt (2 * Real.pi) : ℝ) : EReal) := by
  have e0 : Ideal.ofBits .f32 0x00000000#32 = ((0 : ℝ) : EReal) := by simp [Ideal.ofBits, Ideal.ieee]
  have e1 : Ideal.ofBits .f32 0xBF800000#32 = ((-1 : ℝ) : EReal) := by
    simp [Ideal.ofBits, Ideal.ieee, -EReal.coe_mul, -EReal.coe_neg]; norm_num
  have e2 : Ideal.ofBits .f32 0x40000000#32 = ((2 : ℝ) : EReal) := by
    simp [Ideal.ofBits, Ideal.ieee, -EReal.coe_mul, -EReal.coe_neg]; norm_num
  have en : Ideal.ofBits .f32 0x49800000#32 = ((1048576 : ℝ) : EReal) := by
    simp [Ideal.ofBits, Ideal.ieee, -EReal.coe_mul, -EReal.coe_neg]; norm_num
  have ha : Ideal.atan2 ((0 : ℝ) : EReal) ((-1 : ℝ) : EReal) = ((Real.pi : ℝ) : EReal) := by
    have h : Ideal.atan2 ((0 : ℝ) : EReal) ((-1 : ℝ) : EReal)
      = ((if (0 : ℝ) < -1 then Real.arctan (0 / -1)
          else if (-1 : ℝ) < 0 then (if (0 : ℝ) ≤ 0 then Real.arctan (0 / -1) + Real.pi else Real.arctan (0 / -1) - Real.pi)
          else if (0 : ℝ) < 0 then Real.pi / 2 else if (0 : ℝ) < 0 then -(Real.pi / 2) else 0 : ℝ) : EReal) := rfl
    rw [h]; norm_num
  show Ideal.ofBits .f32 0x49800000#32 * Ideal.ofBits .f32 0x3C000000#32 * Ideal.sqrt (Ideal.ofBits .f32 0x40000000#32
    * Ideal.atan2 (Ideal.ofBits .f32 0x00000000#32) (Ideal.ofBits .f32 0xBF800000#32)) = _
  rw [e0, e1, e2, en, bits_sigma, ha, ← EReal.coe_mul, ← EReal.coe_mul, Ideal.sqrt_coe, if_neg (by have := Real.pi_pos; linarith),
    ← EReal.coe_mul]
  congr 1; norm_num

/-- The reference's sum over the samples at a bin. -/
theorem terms_sum (j : S1024.Idx) :
    Host.reduceAdd (terms x) (constant S_ .f32 0x00000000#32) reducesTo_S1048576x1024_S1024_d0 h_S_ j
      = ∑ p ∈ Finset.range 1048576, shareAll x (j 0).val p := by
  refine (ValueIdx.hostReduceAdd_apply _ _ _ _ _).trans ?_
  have h0 : Ideal.ofBits .f32 0x00000000#32 = 0 := by simp [Ideal.ofBits, Ideal.ieee]
  refine (congrArg (Ideal.hostReduceAdd reducesTo_S1048576x1024_S1024_d0 (terms x) · j) h0).trans ?_
  refine (zero_add _).trans ((Shape.ReducesTo.sum_fiber_r2_a0 _ _ _).trans ?_)
  refine Eq.trans ?_ (Finset.sum_range _).symm
  refine Finset.sum_congr rfl fun p _ => ?_
  rw [shareAll, dif_pos p.isLt]
  exact terms_at _ p (j 0)

/-- The reference's result at a bin is the kernel's. -/
theorem reference_bin (m : (ℓ : Loc nD τ sig) → Buf (Elt Ideal) ℓ) (c : Dev nD) (j : S1024.Idx) :
    (Cert.ReferenceIdeal.Value.res_out0 (F := Ideal) m c : FVec Ideal S1024 .f32) j
      = HistKernelIdeal.binsOf (F := Ideal) (m ((c.tc : Thread nD τ).loc main_arg0)) j := by
  have hpos : (0 : ℝ) < 8192 * Real.sqrt (2 * Real.pi) :=
    mul_pos (by norm_num) (Real.sqrt_pos.2 (mul_pos (by norm_num) Real.pi_pos))
  have hx := terms_sum (m ((c.tc : Thread nD τ).loc main_arg0)) j
  have h : (Cert.ReferenceIdeal.Value.res_out0 (F := Ideal) m c : FVec Ideal S1024 .f32) j
      = Ideal.div (∑ p ∈ Finset.range 1048576, shareAll (m ((c.tc : Thread nD τ).loc main_arg0)) (j 0).val p)
          ((8192 * Real.sqrt (2 * Real.pi) : ℝ) : EReal) :=
    (ValueIdx.hostDivf_apply _ _ _).trans
      (congrArg₂ Ideal.div hx ((ValueIdx.broadcastInDim_scalar_apply _ _ _).trans divisor))
  refine h.trans ((Ideal.div_coe hpos.ne' _).trans ?_)
  rw [one_div]
  exact (binsOf_bin _ j).symm

end Cert.Proof.Hist

end
-- ==== Proof.Value.Tail.lean ====
/-
  What the window leaves out: at a bin more than four from a sample's nearest bin the Gaussian is below 1/25000. So the
  windowed histogram is below the whole one by at most 0.0021 at any bin.
-/
module

public import proofs.«01_k».proof.Proof.Value.Ref

@[expose] public section

noncomputable section

namespace Cert.Proof.Hist

open Idealize.ShloMosaic

/-! ## One sample -/

/-- A sample at infinity adds nothing to any bin. -/
theorem gauss_bot (j : ℕ) : gauss ⊥ j = 0 := by
  rw [gauss, dist, centre, bits_sigma, bits_neg_half, Ideal.div_coe (by norm_num), EReal.bot_sub,
    EReal.bot_mul_of_pos (by rw [EReal.coe_pos]; norm_num), EReal.coe_mul_bot_of_neg (by norm_num), EReal.top_mul_bot]
  rfl
theorem gauss_top (j : ℕ) : gauss ⊤ j = 0 := by
  rw [gauss, dist, centre, bits_sigma, bits_neg_half, Ideal.div_coe (by norm_num), EReal.top_sub_coe,
    EReal.top_mul_of_pos (by rw [EReal.coe_pos]; norm_num), EReal.coe_mul_top_of_neg (by norm_num), EReal.bot_mul_top]
  rfl

/-- A real sample's nearest bin: its place plus a half, toward zero, within the words. -/
theorem near_coe (r : ℝ) : near (r : EReal) = max (-2147483648) (min 2147483647
    (if 0 ≤ (r + 4) * (1023 / 8) + 1 / 2 then ⌊(r + 4) * (1023 / 8) + 1 / 2⌋ else ⌈(r + 4) * (1023 / 8) + 1 / 2⌉)) := by
  rw [near, nearWord, place_coe, bits_half, ← EReal.coe_add, Ideal.fptosi, Ideal.toIntClamped_coe]
  generalize (if 0 ≤ (r + 4) * (1023 / 8) + 1 / 2 then ⌊(r + 4) * (1023 / 8) + 1 / 2⌋
    else ⌈(r + 4) * (1023 / 8) + 1 / 2⌉) = n
  rw [BitVec.toInt_ofInt, Int.bmod_def]
  norm_num
  omega

/-- A real sample outside a bin's window is at least four bins and a half from it. -/
theorem far (r : ℝ) (j : ℕ) (hj : j < 1024) (h : ¬((j : ℤ) - 4 ≤ near (r : EReal) ∧ near (r : EReal) ≤ (j : ℤ) + 4)) :
    (9 / 2 : ℝ) ^ 2 ≤ ((r + 4) * (1023 / 8) - j) ^ 2 := by
  rw [near_coe] at h
  generalize (r + 4) * (1023 / 8) = t at h ⊢
  have hc : t ≤ j - 9 / 2 ∨ (j : ℝ) + 9 / 2 ≤ t := by
    by_cases h0 : 0 ≤ t + 1 / 2
    · rw [if_pos h0] at h
      have h1 := Int.floor_le (t + 1 / 2)
      have h2 := Int.lt_floor_add_one (t + 1 / 2)
      have h3 : ⌊t + 1 / 2⌋ + 1 ≤ (j : ℤ) - 4 ∨ (j : ℤ) + 5 ≤ ⌊t + 1 / 2⌋ := by omega
      rcases h3 with h3 | h3
      · left
        have : ((⌊t + 1 / 2⌋ : ℝ) + 1) ≤ (j : ℝ) - 4 := by exact_mod_cast h3
        linarith
      · right
        have : (j : ℝ) + 5 ≤ (⌊t + 1 / 2⌋ : ℝ) := by exact_mod_cast h3
        linarith
    · rw [if_neg h0] at h
      have h1 := Int.le_ceil (t + 1 / 2)
      have h2 : ⌈t + 1 / 2⌉ ≤ 0 := Int.ceil_le.2 (by push_cast; linarith)
      have h3 : ⌈t + 1 / 2⌉ ≤ (j : ℤ) - 5 := by omega
      left
      have : (⌈t + 1 / 2⌉ : ℝ) ≤ (j : ℝ) - 5 := by exact_mod_cast h3
      linarith
  rcases hc with hc | hc <;> nlinarith

/-- A lower bound of Euler's number, from the first terms of its series. -/
theorem exp_one_gt : (2.71828 : ℝ) ≤ Real.exp 1 := by
  refine le_trans ?_ (Real.sum_le_exp_of_nonneg zero_le_one 10)
  norm_num [Finset.sum_range_succ, Nat.factorial]

/-- The Gaussian at four bins and a half. -/
theorem exp_small : Real.exp (-524288 / 1046529 * (9 / 2) ^ 2) ≤ 1 / 25000 := by
  have h1 : (2.71828 : ℝ) ^ 10 ≤ Real.exp 1 ^ 10 :=
    pow_le_pow_left₀ (by norm_num) exp_one_gt 10
  have h2 : (1.144 : ℝ) ≤ Real.exp 0.144 := by have := Real.add_one_le_exp (0.144 : ℝ); linarith
  have h3 : Real.exp (10 + 0.144) = Real.exp 1 ^ 10 * Real.exp 0.144 := by
    rw [Real.exp_add, ← Real.exp_nat_mul]; norm_num
  have h4 : (25000 : ℝ) ≤ Real.exp (10 + 0.144) := by
    rw [h3]
    calc (25000 : ℝ) ≤ (2.71828 : ℝ) ^ 10 * 1.144 := by norm_num
      _ ≤ _ := mul_le_mul h1 h2 (by norm_num) (by positivity)
  calc Real.exp (-524288 / 1046529 * (9 / 2) ^ 2) ≤ Real.exp (-(10 + 0.144)) := Real.exp_le_exp.2 (by norm_num)
    _ = (Real.exp (10 + 0.144))⁻¹ := Real.exp_neg _
    _ ≤ 25000⁻¹ := inv_anti₀ (by norm_num) h4
    _ = 1 / 25000 := by norm_num

/-- A Gaussian is not negative, -/
theorem gauss_nonneg (x : EReal) (j : ℕ) : 0 ≤ gauss x j := by
  induction x with
  | bot => rw [gauss_bot]
  | top => rw [gauss_top]
  | coe r => rw [gauss_coe]; exact EReal.coe_nonneg.2 (Real.exp_pos _).le

/-- nor is a sample's share of a bin, -/
theorem term_nonneg (x : EReal) (j : ℕ) : 0 ≤ term x j := by
  rw [term]; split_ifs
  · exact gauss_nonneg x j
  · exact le_rfl

/-- which is at most the Gaussian -/
theorem term_le (x : EReal) (j : ℕ) : term x j ≤ gauss x j := by
  rw [term]; split_ifs
  · exact le_rfl
  · exact gauss_nonneg x j

/-- and at least the Gaussian less 1/25000. -/
theorem gauss_le (x : EReal) (j : ℕ) (hj : j < 1024) : gauss x j ≤ term x j + ((1 / 25000 : ℝ) : EReal) := by
  have hp : (0 : EReal) ≤ ((1 / 25000 : ℝ) : EReal) := EReal.coe_nonneg.2 (by norm_num)
  induction x with
  | bot => rw [gauss_bot]; exact add_nonneg (term_nonneg _ _) hp
  | top => rw [gauss_top]; exact add_nonneg (term_nonneg _ _) hp
  | coe r =>
    by_cases h : (j : ℤ) - 4 ≤ near (r : EReal) ∧ near (r : EReal) ≤ (j : ℤ) + 4
    · rw [term, if_pos h]; exact le_add_of_nonneg_right hp
    · rw [term, if_neg h, zero_add, gauss_coe]
      refine EReal.coe_le_coe_iff.2 (le_trans (Real.exp_le_exp.2 ?_) exp_small)
      have := far r j hj h
      nlinarith

/-! ## All samples -/

/-- Sums of nearby numbers are near each other. -/
theorem sum_near (n : ℕ) (f g : ℕ → EReal) (e : ℝ) (h : ∀ p ∈ Finset.range n, f p ≤ g p + (e : EReal)) :
    ∑ p ∈ Finset.range n, f p ≤ ∑ p ∈ Finset.range n, g p + ((n * e : ℝ) : EReal) := by
  induction n with
  | zero => simp
  | succ n ih =>
    have h1 := ih fun p hp => h p (Finset.mem_range.2 (by have := Finset.mem_range.1 hp; omega))
    have h2 := h n (Finset.mem_range.2 (by omega))
    have he : (((n + 1 : ℕ) * e : ℝ) : EReal) = ((n * e : ℝ) : EReal) + (e : EReal) := by
      rw [← EReal.coe_add]; congr 1; push_cast; ring
    rw [Finset.sum_range_succ, Finset.sum_range_succ, he, add_add_add_comm]
    exact add_le_add h1 h2

/-- The `p`-th sample's Gaussian at bin `j`, nothing past the samples. -/
def gaussAll (x : FVec Ideal Cert.ReferenceIdeal.S1048576 .f32) (j : ℕ) (p : ℕ) : EReal :=
  if h : p < 1048576 then gauss (x fun a => match a with | 0 => ⟨p, h⟩) j else 0

variable (x : FVec Ideal Cert.ReferenceIdeal.S1048576 .f32)

/-- The windowed sum is at most the whole one, -/
theorem windowed_le (j : ℕ) :
    ∑ p ∈ Finset.range 1048576, shareAll x j p ≤ ∑ p ∈ Finset.range 1048576, gaussAll x j p := by
  refine Finset.sum_le_sum fun p hp => ?_
  rw [shareAll, gaussAll, dif_pos (Finset.mem_range.1 hp), dif_pos (Finset.mem_range.1 hp)]
  exact term_le _ _

/-- and the whole one exceeds it by at most 1/25000 for every sample. -/
theorem whole_le (j : ℕ) (hj : j < 1024) : ∑ p ∈ Finset.range 1048576, gaussAll x j p
    ≤ ∑ p ∈ Finset.range 1048576, shareAll x j p + ((((1048576 : ℕ) : ℝ) * (1 / 25000) : ℝ) : EReal) := by
  refine sum_near _ _ _ _ fun p hp => ?_
  rw [shareAll, gaussAll, dif_pos (Finset.mem_range.1 hp), dif_pos (Finset.mem_range.1 hp)]
  exact gauss_le _ _ hj

/-- The windowed sum is not negative. -/
theorem windowed_nonneg (j : ℕ) : 0 ≤ ∑ p ∈ Finset.range 1048576, shareAll x j p := by
  refine Finset.sum_nonneg fun p hp => ?_
  rw [shareAll, dif_pos (Finset.mem_range.1 hp)]
  exact term_nonneg _ _

/-- A lower bound of `π`: the cosine of 25/16, three doublings from that of 25/128, is positive. -/
theorem pi_gt : (3.125 : ℝ) < Real.pi := by
  have h1 : (0.98085 : ℝ) ≤ Real.cos (25 / 128) := by
    have h := (abs_le.1 (Real.cos_bound (x := 25 / 128) (by norm_num [abs_of_pos]))).1
    rw [abs_of_pos (by norm_num : (0 : ℝ) < 25 / 128)] at h
    norm_num at h ⊢; linarith
  have h2 : (0.9241 : ℝ) ≤ Real.cos (25 / 64) := by
    have h := Real.cos_two_mul (25 / 128)
    norm_num at h ⊢; nlinarith
  have h3 : (0.7079 : ℝ) < Real.cos (25 / 32) := by
    have h := Real.cos_two_mul (25 / 64)
    norm_num at h ⊢; nlinarith
  have h4 : (0 : ℝ) < Real.cos (25 / 16) := by
    have h := Real.cos_two_mul (25 / 32)
    norm_num at h ⊢; nlinarith
  by_contra hc
  have h5 := Real.cos_nonpos_of_pi_div_two_le_of_le (x := 25 / 16) (by linarith)
    (by have := Real.two_le_pi; linarith)
  linarith

/-- All samples' worth of 1/25000, scaled, is below the bound, the word for 0.0021. -/
theorem scaled_small : ((1048576 : ℕ) : ℝ) * (1 / 25000) * (8192 * Real.sqrt (2 * Real.pi))⁻¹ ≤ 9019431 / 4294967296 := by
  have h1 : (2.5 : ℝ) ≤ Real.sqrt (2 * Real.pi) :=
    Real.le_sqrt_of_sq_le (by have := pi_gt; norm_num at this ⊢; linarith)
  have h2 : (8192 * Real.sqrt (2 * Real.pi))⁻¹ ≤ (8192 * 2.5)⁻¹ := inv_anti₀ (by norm_num) (by linarith)
  calc ((1048576 : ℕ) : ℝ) * (1 / 25000) * (8192 * Real.sqrt (2 * Real.pi))⁻¹
      ≤ ((1048576 : ℕ) : ℝ) * (1 / 25000) * (8192 * 2.5)⁻¹ := mul_le_mul_of_nonneg_left h2 (by norm_num)
    _ ≤ _ := by norm_num

/-- The bound, as a real. -/
theorem bits_bound : Ideal.ofBits .f32 0x3B09A027#32 = ((9019431 / 4294967296 : ℝ) : EReal) := by
  simp [Ideal.ofBits, Ideal.ieee, -EReal.coe_mul, -EReal.coe_neg]; norm_num

/-- Scaled, the two sums stay in order and within the bound. -/
theorem scaled (A B : EReal) (hA : 0 ≤ A) (hAB : A ≤ B)
    (hBA : B ≤ A + ((((1048576 : ℕ) : ℝ) * (1 / 25000) : ℝ) : EReal)) :
    A * (((8192 * Real.sqrt (2 * Real.pi))⁻¹ : ℝ) : EReal) ≤ B * (((8192 * Real.sqrt (2 * Real.pi))⁻¹ : ℝ) : EReal)
    ∧ B * (((8192 * Real.sqrt (2 * Real.pi))⁻¹ : ℝ) : EReal)
      ≤ A * (((8192 * Real.sqrt (2 * Real.pi))⁻¹ : ℝ) : EReal) + Ideal.ofBits .f32 0x3B09A027#32 := by
  have hs : (0 : EReal) ≤ (((8192 * Real.sqrt (2 * Real.pi))⁻¹ : ℝ) : EReal) := EReal.coe_nonneg.2 (by positivity)
  refine ⟨mul_le_mul_of_nonneg_right hAB hs, (mul_le_mul_of_nonneg_right hBA hs).trans ?_⟩
  rw [EReal.right_distrib_of_nonneg hA (EReal.coe_nonneg.2 (by norm_num)), ← EReal.coe_mul, bits_bound]
  exact add_le_add le_rfl (EReal.coe_le_coe_iff.2 scaled_small)

end Cert.Proof.Hist

end
-- ==== Proof.Value.Post.lean ====
/-
  The postcondition of the ideal kernel: its histogram is at most the whole Gaussian density estimate, without a window,
  and at most 0.0021 below it.
-/
module

public import proofs.«01_k».proof.Post_kde_close
public import proofs.«01_k».proof.Proof.Value.Tail

@[expose] public section

noncomputable section

namespace Cert.Proof.Hist

open Cert.ReferenceIdeal Cert.ReferenceIdeal.Gen
open Idealize.ShloMosaic

/-- The shape relations that the postcondition's operations take. -/
instance postFacts : Cert.Post_kde_close.Facts where
  bcast_S_S1023 := bcast_S_S1023
  shapeCasts_S_S1 := shapeCasts_S_S1
  bcast_S1_S1023_0 := bcast_S1_S1023_0
  bcast_S_S1 := bcast_S_S1
  concatenates_S1023_S1_S1024_d0 := concatenates_S1023_S1_S1024_d0
  bcast_S1048576_S1048576x1_0 := bcast_S1048576_S1048576x1_0
  bcast_S1024_S1x1024_1 := bcast_S1024_S1x1024_1
  bcast_S1048576x1_S1048576x1024_0_1 := bcast_S1048576x1_S1048576x1024_0_1
  bcast_S1x1024_S1048576x1024_0_1 := bcast_S1x1024_S1048576x1024_0_1
  bcast_S_S1048576x1024 := bcast_S_S1048576x1024
  reducesTo_S1048576x1024_S1024_d0 := reducesTo_S1048576x1024_S1024_d0
  h_S_ := h_S_
  bcast_S_S1024 := bcast_S_S1024

variable (x : FVec Ideal S1048576 .f32)

/-- The sum of all Gaussians at a bin. -/
theorem gausses_sum (j : S1024.Idx) :
    Host.reduceAdd (gausses x) (constant S_ .f32 0x00000000#32) reducesTo_S1048576x1024_S1024_d0 h_S_ j
      = ∑ p ∈ Finset.range 1048576, gaussAll x (j 0).val p := by
  refine (ValueIdx.hostReduceAdd_apply _ _ _ _ _).trans ?_
  have h0 : Ideal.ofBits .f32 0x00000000#32 = 0 := by simp [Ideal.ofBits, Ideal.ieee]
  refine (congrArg (Ideal.hostReduceAdd reducesTo_S1048576x1024_S1024_d0 (gausses x) · j) h0).trans ?_
  refine (zero_add _).trans ((Shape.ReducesTo.sum_fiber_r2_a0 _ _ _).trans ?_)
  refine Eq.trans ?_ (Finset.sum_range _).symm
  refine Finset.sum_congr rfl fun p _ => ?_
  rw [gaussAll, dif_pos p.isLt]
  exact gausses_at _ p (j 0)

/-- The whole density estimate, as the postcondition computes it. -/
abbrev whole : FVec Ideal S1024 .f32 :=
  Host.divf (Host.reduceAdd (gausses x) (constant S_ .f32 0x00000000#32) reducesTo_S1048576x1024_S1024_d0 h_S_)
    (broadcastInDim S1024 ![] bcast_S_S1024 (mulf (mulf (constant S_ .f32 0x49800000#32) (constant S_ .f32 0x3C000000#32))
      (Host.sqrt (mulf (constant S_ .f32 0x40000000#32)
        (Host.atan2 (constant S_ .f32 0x00000000#32) (constant S_ .f32 0xBF800000#32))))))

/-- It is the scaled sum of all Gaussians. -/
theorem whole_bin (j : S1024.Idx) : whole x j = (∑ p ∈ Finset.range 1048576, gaussAll x (j 0).val p)
      * (((8192 * Real.sqrt (2 * Real.pi))⁻¹ : ℝ) : EReal) := by
  have hpos : (0 : ℝ) < 8192 * Real.sqrt (2 * Real.pi) :=
    mul_pos (by norm_num) (Real.sqrt_pos.2 (mul_pos (by norm_num) Real.pi_pos))
  have h : whole x j = Ideal.div (∑ p ∈ Finset.range 1048576, gaussAll x (j 0).val p)
      ((8192 * Real.sqrt (2 * Real.pi) : ℝ) : EReal) :=
    (ValueIdx.hostDivf_apply _ _ _).trans
      (congrArg₂ Ideal.div (gausses_sum x j) ((ValueIdx.broadcastInDim_scalar_apply _ _ _).trans divisor))
  rw [h, Ideal.div_coe hpos.ne', one_div]

/-- The postcondition at a bin is the two comparisons with the whole estimate. -/
theorem post_unfold (y : FVec Ideal S1024 .f32) : Cert.Post_kde_close.fn (F := Ideal) x y
    = andi (cmpf .ole y (whole x))
        (cmpf .ole (whole x) (addf y (broadcastInDim S1024 ![] bcast_S_S1024 (constant S_ .f32 0x3B09A027#32)))) := rfl

/-- The kernel's histogram meets the postcondition. -/
theorem post_holds : Cert.Post_kde_close.fn (F := Ideal) x (HistKernelIdeal.binsOf (F := Ideal) x) = fun _ => 1#1 := by
  rw [post_unfold]
  funext j
  have hs := scaled _ _ (windowed_nonneg x (j 0).val) (windowed_le x (j 0).val) (whole_le x (j 0).val (j 0).isLt)
  rw [← whole_bin x j, ← binsOf_bin x j] at hs
  have h : andi (cmpf .ole (HistKernelIdeal.binsOf (F := Ideal) x) (whole x)) (cmpf .ole (whole x) (addf (HistKernelIdeal.binsOf (F := Ideal) x)
        (broadcastInDim S1024 ![] bcast_S_S1024 (constant S_ .f32 0x3B09A027#32)))) j
      = IntOp.andi (Ideal.cmp .ole (HistKernelIdeal.binsOf (F := Ideal) x j) (whole x j))
          (Ideal.cmp .ole (whole x j) (HistKernelIdeal.binsOf (F := Ideal) x j + Ideal.ofBits .f32 0x3B09A027#32)) := rfl
  rw [h, Ideal.cmp, Ideal.cmp, decide_eq_true hs.1, decide_eq_true hs.2]
  rfl

end Cert.Proof.Hist

end
-- ==== Proof.lean ====
/-
  The proof of the six claims about the histogram kernel: that it, its ideal form and the reference run to the end
  without touching their argument, that the ideal form only renames constants, that the ideal form and the reference
  return the same 1024 bins, and that these are within 0.0021 of the density estimate without a window.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Ref
public import proofs.«01_k».proof.Proof.Value.Post
public import Idealize.ShloMosaic.Adequacy
public import Idealize.ShloMosaic.Init

@[expose] public section

noncomputable section

namespace Cert.Proof

open Idealize.ShloMosaic Idealize.SL.Sem

/-- The printed kernel terminates, returns its argument unchanged and leaves every counter at zero. -/
theorem frame_kernel : Cert.quiescent_Kernel (hKernel := Cert.Kernel.Gen.facts) := fun m ρ _ =>
  (θ_run Cert.Kernel.defs _ _).mono (fun _ h => ⟨fun c => (h.1 c).1, h.2⟩)
    (HistKernel.run_main (F := Bits) m ρ)

/-- So does the kernel over the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩)
    (HistKernelIdeal.run_main (F := Ideal) m ρ)

/-- So does the reference over the extended reals. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel's four named constants are, as floats, the printed ones. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- Over the extended reals the kernel and the reference, run on the same samples, return the same bins. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => HistKernelIdeal.binsOf (F := Ideal) (m (HistKernelIdeal.xLoc c)),
    (θ_run Cert.KernelIdeal.defs _ _).mono (fun _ h c => ⟨(h.1 c).2, (h.1 c).1⟩) (HistKernelIdeal.run_main (F := Ideal) m g),
    (θ_run Cert.ReferenceIdeal.defs _ _).mono
      (fun _ h c => ⟨(h c).1.trans ((funext fun j => Hist.reference_bin m' c j).trans
        (congrArg (HistKernelIdeal.binsOf (F := Ideal)) (hm c))), (h c).2⟩)
      (Cert.ReferenceIdeal.Value.run (F := Ideal) m' g')⟩

/-- Over the extended reals the kernel's bins are at most those of the density estimate without a window, and at most
0.0021 below them. -/
theorem close : Cert.holds_KernelIdeal_kde_close (hKernelIdeal := Cert.KernelIdeal.Gen.facts)
    (hPost_kde_close := Hist.postFacts) := fun m g _ =>
  (θ_run Cert.KernelIdeal.defs _ _).mono
    (fun _ h c => ⟨(h.1 c).1, (congrArg (Cert.Post_kde_close.fn (F := Ideal) (m (HistKernelIdeal.xLoc c))) (h.1 c).2).trans
      (Hist.post_holds (m (HistKernelIdeal.xLoc c)))⟩)
    (HistKernelIdeal.run_main (F := Ideal) m g)

/-- All six claims. -/
theorem claim : Cert.Claim := ⟨Cert.Kernel.Gen.facts, Cert.KernelIdeal.Gen.facts, Cert.ReferenceIdeal.Gen.facts,
  Hist.postFacts, frame_kernel, frame_kernelIdeal, frame_reference, preserves, algebraic, close⟩

end Cert.Proof

end
